-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S1024 : Shape := ⟨1, ![1024]⟩
abbrev S100000x32 : Shape := ⟨2, ![100000, 32]⟩
abbrev S32x100000 : Shape := ⟨2, ![32, 100000]⟩
abbrev S1024x100000 : Shape := ⟨2, ![1024, 100000]⟩
abbrev S6x16x100000 : Shape := ⟨3, ![6, 16, 100000]⟩
abbrev S_ : Shape := ⟨0, ![]⟩
abbrev S1024x1 : Shape := ⟨2, ![1024, 1]⟩
abbrev S16x32 : Shape := ⟨2, ![16, 32]⟩
abbrev S32x25088 : Shape := ⟨2, ![32, 25088]⟩
abbrev S16x25088 : Shape := ⟨2, ![16, 25088]⟩
abbrev S1x16x25088 : Shape := ⟨3, ![1, 16, 25088]⟩
abbrev S32x24736 : Shape := ⟨2, ![32, 24736]⟩
abbrev S16x24736 : Shape := ⟨2, ![16, 24736]⟩
abbrev S1x16x24736 : Shape := ⟨3, ![1, 16, 24736]⟩
abbrev S4x100000 : Shape := ⟨2, ![4, 100000]⟩
abbrev S1x4x100000 : Shape := ⟨3, ![1, 4, 100000]⟩

abbrev nBuf : Space → Nat
  | .hbm => 5
  | .vmem => 3
  | .smem => 0
  | _ => 0

abbrev bufTy : (tb : Table) → Fin (tcTables nBuf tb) → BufTy
  | .hbm, ⟨0, _⟩ => ⟨S1024x32, .f32⟩
  | .hbm, ⟨1, _⟩ => ⟨S1024, .i32⟩
  | .hbm, ⟨2, _⟩ => ⟨S100000x32, .f32⟩
  | .hbm, ⟨3, _⟩ => ⟨S32x100000, .f32⟩
  | .hbm, ⟨4, _⟩ => ⟨S1024x100000, .f32⟩
  | .local _ .vmem, ⟨0, _⟩ => ⟨S1024x32, .f32⟩
  | .local _ .vmem, ⟨1, _⟩ => ⟨S32x100000, .f32⟩
  | .local _ .vmem, ⟨2, _⟩ => ⟨S6x16x100000, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x100000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "inv_temp" => some ((268435456 / 13421773 : ℝ) : EReal)
  | _ => none
-- ==== ReferenceIdeal.lean ====
abbrev S1024x32 : Shape := ⟨2, ![1024, 32]⟩
abbrev S1024 : Shape := ⟨1, ![1024]⟩
abbrev S100000x32 : Shape := ⟨2, ![100000, 32]⟩
abbrev S_ : Shape := ⟨0, ![]⟩
abbrev S1024x1 : Shape := ⟨2, ![1024, 1]⟩
abbrev S32x100000 : Shape := ⟨2, ![32, 100000]⟩
abbrev S1024x100000 : Shape := ⟨2, ![1024, 100000]⟩

abbrev nBuf : Space → Nat
  | .hbm => 19
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S1024, .i32⟩
  | .hbm, ⟨2, _⟩ => ⟨S100000x32, .f32⟩
  | .hbm, ⟨3, _⟩ => ⟨S1024x32, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x32, .f32⟩
  | .hbm, ⟨13, _⟩ => ⟨S1024x32, .f32⟩
  | .hbm, ⟨14, _⟩ => ⟨S32x100000, .f32⟩
  | .hbm, ⟨15, _⟩ => ⟨S1024x100000, .f32⟩
  | .hbm, ⟨16, _⟩ => ⟨S_, .f32⟩
  | .hbm, ⟨17, _⟩ => ⟨S1024x100000, .f32⟩
  | .hbm, ⟨18, _⟩ => ⟨S1024x100000, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Proof.Program.lean ====
/- The kernel's program written by bands.

   The kernel works on sixty-four bands of sixteen rows. A band multiplies its rows of the scaled input by the
   features in four column chunks, stores each product in one of six slots of the kernel's buffer, and sends the slot
   to the result by four copies of four rows. From the sixth band on, a band first waits for the copies of the band
   that used its slot before. This module writes that program with the band as a variable and proves that it is
   the kernel's text. -/
module

public import proofs.«01_k».proof.Proof.Gen.Kernel
public import proofs.«01_k».proof.Proof.Gen.Kernel.Points
public import Idealize.ShloMosaic.Lib.Pipeline.Regions

@[expose] public section

set_option maxRecDepth 16384

noncomputable section

namespace Cert.Kernel.Bands

open Idealize.ShloMosaic Idealize.ShloMosaic.TcCoe
open Idealize.SL Idealize.SL.Sem
open Facts₀ Facts

variable {F : FTy → Type} [FloatOps F]

/-- The type of the kernel's programs. -/
abbrev Pg (F : FTy → Type) [FloatOps F] := Prog (TpuEff nD τ sig (Elt F) Λ₀ .tc)

/-! ## Shapes of a chunk of `n` columns -/

abbrev SF (n : ℕ) : Shape := ⟨2, ![32, n]⟩
abbrev SC (n : ℕ) : Shape := ⟨2, ![16, n]⟩
abbrev SB (n : ℕ) : Shape := ⟨3, ![1, 16, n]⟩

/-- A chunk of features is inside the transposed features. -/
theorem inbF {o n : ℕ} (h : o + n ≤ 100000) : ∀ a, (![0, o] : Fin 2 → ℕ) a + (SF n).size a ≤ S32x100000.size a := by
  intro a; fin_cases a <;> simp [SF, S32x100000] <;> omega

/-- A chunk of a slot is inside the buffer. -/
theorem inbB {s o n : ℕ} (hs : s < 6) (h : o + n ≤ 100000) :
    ∀ a, (![s, 0, o] : Fin 3 → ℕ) a + (SB n).size a ≤ S6x16x100000.size a := by
  intro a; fin_cases a <;> simp [SB, S6x16x100000] <;> omega

/-- Four rows of a slot are inside the buffer. -/
theorem inbS {s p : ℕ} (hs : s < 6) (hp : p < 4) :
    ∀ a, (![s, 4 * p, 0] : Fin 3 → ℕ) a + S1x4x100000.size a ≤ S6x16x100000.size a := by
  intro a; fin_cases a <;> simp [S1x4x100000, S6x16x100000] <;> omega

/-- Four rows of a band are inside the result. -/
theorem inbD {b p : ℕ} (hb : b < 64) (hp : p < 4) :
    ∀ a, (![16 * b + 4 * p, 0] : Fin 2 → ℕ) a + S4x100000.size a ≤ S1024x100000.size a := by
  intro a; fin_cases a <;> simp [S4x100000, S1024x100000] <;> omega

/-- A band's rows are inside the input. -/
theorem slicesX {b : ℕ} (hb : b < 64) : S1024x32.Slices ![16 * b, 0] S16x32 := by
  refine ⟨rfl, ?_⟩
  intro a; fin_cases a <;> simp [S16x32, S1024x32] <;> omega

theorem posF {n : ℕ} (h : 0 < n) : 0 < (SF n).numel := by
  simp [Shape.numel, SF, Fin.prod_univ_succ, h]

theorem posB {n : ℕ} (h : 0 < n) : 0 < (SB n).numel := by
  simp [Shape.numel, SB, Fin.prod_univ_succ, h]

theorem castsF (n : ℕ) : (SF n).ShapeCasts (SF n) := rfl

theorem castsB (n : ℕ) : (SC n).ShapeCasts (SB n) := by
  simp [Shape.ShapeCasts, Shape.numel, SC, SB, Fin.prod_univ_succ]

/-- The product of a band's rows with a chunk: rows of the one against columns of the other. -/
def dot (n : ℕ) : DotDims S16x32 (SF n) (SC n) where
  lhsContracting := [1]
  rhsContracting := [0]
  lhsNonContracting := [0]
  rhsNonContracting := [1]
  lhsBatch := []
  rhsBatch := []
  wf := ⟨rfl, by decide, rfl, by simp, by simp, by simp, by decide,
    (by decide : ([1, 0] : List (Fin 2)).Perm (List.finRange 2)), rfl, Nat.succ_pos _, by
    intro a; fin_cases a <;> rfl⟩

/-! ## The pieces -/

/-- The kernel's semaphore of its cell `k`. -/
abbrev cell (k : ℕ) (hk : k < 24) : DmaSem sig := ⟨2 + k, (by omega : 2 + k < 26)⟩

/-- The cell of a band's `p`-th copy: four cells for each slot. -/
theorem cell_lt {b p : ℕ} (hp : p < 4) : b % 6 * 4 + p < 24 := by omega

theorem slot_lt (b : ℕ) : b % 6 < 6 := Nat.mod_lt _ (by decide)

/-- The kernel's buffers. -/
abbrev mX : Memref sig .tc .vmem S1024x32 .f32 := Memref.whole cc0_stg0_0
abbrev mF : Memref sig .tc .vmem S32x100000 .f32 := Memref.whole cc0_stg1_0
abbrev mO : Memref sig .tc .hbm S1024x100000 .f32 := Memref.whole main_v1
abbrev mB : Memref sig .tc .vmem S6x16x100000 .f32 := Memref.whole cc0_scratch0

/-- The scaled input: each row times `t` over its clipped norm. -/
def scaled (t : F .f32) (v0 : FVec F S1024x32 .f32) : FVec F S1024x32 .f32 :=
  mulf v0 (broadcastTo S1024x32 (divf (broadcast S1024x1 t)
    (maximumf (broadcast S1024x1 (Scalar.ofBits .f32 0x2B8CBCCC#32))
      (sqrt (shapeCast S1024x1 (multiReduction .add [1] S1024 (mulf v0 v0) 0x00000000#32 Gen.reduces_S1024x32_S1024 (.inl rfl) rfl)
        Gen.shapeCasts_S1024_S1024x1)))) Gen.broadcasts_S1024x1_S1024x32)

/-- What a band's chunk computes of the scaled input and the loaded features. -/
def prod (xn : FVec F S1024x32 .f32) (b : ℕ) (hb : b < 64) (n : ℕ) (f : Vec F (SF n) .f32) : FVec F (SC n) .f32 :=
  matmul (dot n) none (extractStridedSlice S16x32 ![16 * b, 0] xn (slicesX hb)) (shapeCast (SF n) f (castsF n))
    (constant (SC n) .f32 0x00000000#32)

/-- One chunk of a band: load the features, multiply, store in the band's slot. -/
def chunk (xn : FVec F S1024x32 .f32) (b : ℕ) (hb : b < 64) (o n : ℕ) (hn : 0 < n) (ho : o + n ≤ 100000) : Pg F PUnit := do
  let f : Vec F (SF n) .f32 ← Prog.lift (.load mF (Rect.unit (s := S32x100000) ![0, o] (SF n).size (inbF ho)).toLoadRect (View.loadsAt_vmem (posF hn)))
  let _d : Vec F (SB n) .f32 ← Prog.lift (.load mB (Rect.unit (s := S6x16x100000) ![b % 6, 0, o] (SB n).size (inbB (slot_lt b) ho)).toLoadRect (View.loadsAt_vmem (posB hn)))
  Prog.lift (.store mB (Rect.unit (s := S6x16x100000) ![b % 6, 0, o] (SB n).size (inbB (slot_lt b) ho)) (shapeCast (SB n) (prod xn b hb n f) (castsB n)) Finset.univ (View.stores_vmem_bits_univ (posB hn) rfl) (.inl rfl))

/-- Four rows of a slot, the copy's source. -/
abbrev srcM (b p : ℕ) (hp : p < 4) : Memref sig .tc .vmem S4x100000 .f32 :=
  (mB.slice (Rect.unit (s := S6x16x100000) ![b % 6, 4 * p, 0] S1x4x100000.size (inbS (slot_lt b) hp)) (fun _ => rfl)).squeeze S4x100000 Gen.squeezes_S1x4x100000_S4x100000

/-- Four rows of the result, the copy's destination. -/
abbrev dstM (b p : ℕ) (hb : b < 64) (hp : p < 4) : Memref sig .tc .hbm S4x100000 .f32 :=
  mO.slice (Rect.unit (s := S1024x100000) ![16 * b + 4 * p, 0] S4x100000.size (inbD hb hp)) (fun _ => rfl)

/-- Start a band's `p`-th copy. -/
def send (b : ℕ) (hb : b < 64) (p : ℕ) (hp : p < 4) : Pg F PUnit :=
  Prog.lift (.enqueueDma (srcM b p hp) (.here (dstM b p hb hp)) (.dma (cell (b % 6 * 4 + p) (cell_lt hp)))
    ((View.wordExact_bits rfl).reshape _ _) (View.wordExact_bits rfl) ⟨Or.inl rfl, trivial⟩)

/-- Wait for a band's `p`-th copy. -/
def collect (b : ℕ) (hb : b < 64) (p : ℕ) (hp : p < 4) : Pg F PUnit :=
  Prog.lift (.waitDma2 (cell (b % 6 * 4 + p) (cell_lt hp)) (srcM b p hp) (dstM b p hb hp)
    ((View.wordExact_bits rfl).reshape _ _) (View.wordExact_bits rfl))

/-- Run `f` at `a`, `a + 1`, …, `n` values below `m`. -/
def loop {m : ℕ} (f : (b : ℕ) → b < m → Pg F PUnit) : (n a : ℕ) → a + n ≤ m → Pg F PUnit
  | 0, _, _ => pure ⟨⟩
  | n + 1, a, h => do f a (by omega); loop f n (a + 1) (by omega)

/-- A band's four chunks. -/
def chunks (xn : FVec F S1024x32 .f32) (b : ℕ) (hb : b < 64) : Pg F PUnit := do
  chunk xn b hb 0 25088 (by decide) (by decide)
  chunk xn b hb 25088 25088 (by decide) (by decide)
  chunk xn b hb 50176 25088 (by decide) (by decide)
  chunk xn b hb 75264 24736 (by decide) (by decide)

/-- Start a band's four copies. -/
def sends (b : ℕ) (hb : b < 64) : Pg F PUnit := loop (m := 4) (send b hb) 4 0 (by decide)

/-- Wait for a band's four copies. -/
def collects (b : ℕ) (hb : b < 64) : Pg F PUnit := loop (m := 4) (collect b hb) 4 0 (by decide)

/-- A band whose slot is used for the first time. -/
def fresh (xn : FVec F S1024x32 .f32) (b : ℕ) (hb : b < 64) : Pg F PUnit := do
  chunks xn b hb
  sends b hb

/-- A band whose slot was used before: wait for that band's copies first. -/
def again (xn : FVec F S1024x32 .f32) (b : ℕ) (hb : b < 64) : Pg F PUnit := do
  collects (b - 6) (by omega)
  chunks xn b hb
  sends b hb

/-- The kernel by bands, `t` the scalar it scales by. -/
def body (t : F .f32) : Pg F PUnit := do
  let v0 : Vec F S1024x32 .f32 ← Prog.lift (.load mX (Rect.unit (s := S1024x32) ![0, 0] S1024x32.size Gen.inb_S1024x32_S1024x32_0_0).toLoadRect (View.loadsAt_vmem Gen.h_S1024x32))
  loop (fresh (scaled t v0)) 6 0 (by decide)
  loop (again (scaled t v0)) 58 6 (by decide)
  loop collects 6 58 (by decide)

/-- The table with the kernel by bands in it. -/
def table (t : F .f32) : Defs nD τ sig (Elt F) Λ₀ := Defs.onTc fun
  | 0, _ => body t
  | ⟨_ + 1, h⟩, _ => absurd h (Nat.not_lt.2 (Nat.le_add_left _ _))

/-- The table's one row. -/
theorem table_row (t : F .f32) (k : Fin cfg0.N) :
    table t .tc cfg0.body (cfg0.bodyArgs k (cfg0.slots k)) = (body t : Pg F PUnit) := by
  unfold table; rw [Defs.onTc_tc]

end Cert.Kernel.Bands
-- ==== Proof.Values.lean ====
/- What a band computes, and what the kernel's buffer and its result hold of it.

   Stated of the scaled input and the transposed features as functions, at any arithmetic. -/
module

public import proofs.«01_k».proof.Proof.Program
public import Idealize.ShloMosaic.Lib.Pointwise
public import Idealize.ShloMosaic.Lib.Pipeline.Value

@[expose] public section

set_option maxRecDepth 16384

noncomputable section

namespace Cert.Kernel.Bands

open Idealize.ShloMosaic Idealize.ShloMosaic.TcCoe
open Idealize.SL Idealize.SL.Sem

variable {F : FTy → Type} [FloatOps F]

/-- The rectangle of a feature chunk. -/
abbrev rF (o n : ℕ) (ho : o + n ≤ 100000) : Rect S32x100000 := Rect.unit (s := S32x100000) ![0, o] (SF n).size (inbF ho)

/-- The rectangle of a chunk of a slot. -/
abbrev rB (b o n : ℕ) (ho : o + n ≤ 100000) : Rect S6x16x100000 :=
  Rect.unit (s := S6x16x100000) ![b % 6, 0, o] (SB n).size (inbB (slot_lt b) ho)

/-- A feature chunk as loaded. -/
def feat (ff : Vec F S32x100000 .f32) (o n : ℕ) (ho : o + n ≤ 100000) : Vec F (SF n) .f32 :=
  (mF.access (rF o n ho)).read (Elt F) ff

/-- What a chunk of a band holds at a row and a column of the chunk. -/
def chunkAt (xn : FVec F S1024x32 .f32) (ff : Vec F S32x100000 .f32) (b : ℕ) (hb : b < 64) (o n : ℕ) (ho : o + n ≤ 100000)
    (i : Fin 16) (k : Fin n) : Elt F .f32 :=
  prod xn b hb n (feat ff o n ho) (ix2 i k)

/-- What a band holds at a row and a column: the chunk the column is in, at the column in it. -/
def bandAt (xn : FVec F S1024x32 .f32) (ff : Vec F S32x100000 .f32) (b : ℕ) (hb : b < 64) (i : Fin 16) (j : Fin 100000) :
    Elt F .f32 :=
  if h₁ : j.val < 25088 then chunkAt xn ff b hb 0 25088 (by decide) i ⟨j, h₁⟩
  else if h₂ : j.val < 50176 then chunkAt xn ff b hb 25088 25088 (by decide) i ⟨j - 25088, by omega⟩
  else if h₃ : j.val < 75264 then chunkAt xn ff b hb 50176 25088 (by decide) i ⟨j - 50176, by omega⟩
  else chunkAt xn ff b hb 75264 24736 (by decide) i ⟨j - 75264, by omega⟩

/-- The same band at the same row. -/
theorem bandAt_congr (xn : FVec F S1024x32 .f32) (ff : Vec F S32x100000 .f32) {b b' : ℕ} {hb : b < 64} {hb' : b' < 64}
    (h : b = b') {i i' : Fin 16} (hi : i.val = i'.val) (j : Fin 100000) :
    bandAt xn ff b hb i j = bandAt xn ff b' hb' i' j := by
  subst h; rw [Fin.ext hi]

/-- What the buffer holds of a band, in any slot. -/
def BB (xn : FVec F S1024x32 .f32) (ff : Vec F S32x100000 .f32) (b : ℕ) (hb : b < 64) : Vec F S6x16x100000 .f32 :=
  fun i => bandAt xn ff b hb (i 1) (i 2)

/-- What the result holds: the band of the row, at the row in it. -/
def GG (xn : FVec F S1024x32 .f32) (ff : Vec F S32x100000 .f32) : Vec F S1024x100000 .f32 :=
  fun i => bandAt xn ff ((i 0).val / 16) (by have := (i 0).isLt; change (i 0).val < 1024 at this; omega)
    ⟨(i 0).val % 16, Nat.mod_lt _ (by decide)⟩ (i 1)

/-- A chunk is one of the band's four: the band at its columns is the chunk. -/
def IsChunk (o n : ℕ) (ho : o + n ≤ 100000) : Prop :=
  ∀ {F : FTy → Type} [FloatOps F] (xn : FVec F S1024x32 .f32) (ff : Vec F S32x100000 .f32) (b : ℕ) (hb : b < 64) (i : Fin 16)
    (k : Fin n) (j : Fin 100000), j.val = o + k.val → bandAt xn ff b hb i j = chunkAt xn ff b hb o n ho i k

theorem isChunk0 : IsChunk 0 25088 (by decide) := by
  intro F _ xn ff b hb i k j h
  have := k.isLt
  unfold bandAt
  rw [dif_pos (by omega)]; exact congrArg (chunkAt xn ff b hb _ _ _ i) (Fin.ext (by dsimp only; omega))
theorem isChunk1 : IsChunk 25088 25088 (by decide) := by
  intro F _ xn ff b hb i k j h
  have := k.isLt
  unfold bandAt
  rw [dif_neg (by omega), dif_pos (by omega)]; exact congrArg (chunkAt xn ff b hb _ _ _ i) (Fin.ext (by dsimp only; omega))
theorem isChunk2 : IsChunk 50176 25088 (by decide) := by
  intro F _ xn ff b hb i k j h
  have := k.isLt
  unfold bandAt
  rw [dif_neg (by omega), dif_neg (by omega), dif_pos (by omega)]; exact congrArg (chunkAt xn ff b hb _ _ _ i) (Fin.ext (by dsimp only; omega))
theorem isChunk3 : IsChunk 75264 24736 (by decide) := by
  intro F _ xn ff b hb i k j h
  have := k.isLt
  unfold bandAt
  rw [dif_neg (by omega), dif_neg (by omega), dif_neg (by omega)]; exact congrArg (chunkAt xn ff b hb _ _ _ i) (Fin.ext (by dsimp only; omega))

/-! ## The elements of a slot and of a row range -/

/-- Of slot `s`, the rows from `q` on. -/
def slotGe (s q : ℕ) : Finset S6x16x100000.Idx := Finset.univ.filter fun i => (i 0).val = s ∧ q ≤ (i 1).val

/-- Of slot `s`, the rows below `q`. -/
def slotLt (s q : ℕ) : Finset S6x16x100000.Idx := Finset.univ.filter fun i => (i 0).val = s ∧ (i 1).val < q

/-- The result's rows from `r` on. -/
def rowsGe (r : ℕ) : Finset S1024x100000.Idx := Finset.univ.filter fun i => r ≤ (i 0).val

/-- The result's rows below `r`. -/
def rowsLt (r : ℕ) : Finset S1024x100000.Idx := Finset.univ.filter fun i => (i 0).val < r

theorem mem_src {b p : ℕ} {hp : p < 4} (i : S6x16x100000.Idx) :
    i ∈ (srcM b p hp).view.set ↔ (i 0).val = b % 6 ∧ 4 * p ≤ (i 1).val ∧ (i 1).val < 4 * p + 4 := by
  have h : (srcM b p hp).view.set = (Rect.unit (s := S6x16x100000) ![b % 6, 4 * p, 0] S1x4x100000.size (inbS (slot_lt b) hp)).set := by
    exact (View.set_reshape _ _).trans (View.set_slice_whole _ _)
  rw [h, Rect.mem_set_unit]
  have := (i 2).isLt
  simp [Fin.forall_fin_succ] at this ⊢
  omega

theorem mem_dst {b p : ℕ} {hb : b < 64} {hp : p < 4} (i : S1024x100000.Idx) :
    i ∈ (dstM b p hb hp).view.set ↔ 16 * b + 4 * p ≤ (i 0).val ∧ (i 0).val < 16 * b + 4 * p + 4 := by
  have h : (dstM b p hb hp).view.set = (Rect.unit (s := S1024x100000) ![16 * b + 4 * p, 0] S4x100000.size (inbD hb hp)).set :=
    View.set_slice_whole _ _
  rw [h, Rect.mem_set_unit]
  have := (i 1).isLt
  simp [Fin.forall_fin_succ] at this ⊢
  omega

theorem mem_rB {b o n : ℕ} {ho : o + n ≤ 100000} (i : S6x16x100000.Idx) :
    i ∈ (mB.access (rB b o n ho)).set ↔ (i 0).val = b % 6 ∧ o ≤ (i 2).val ∧ (i 2).val < o + n := by
  have h : (mB.access (rB b o n ho)).set = (rB b o n ho).set := View.set_slice_whole _ _
  rw [h, Rect.mem_set_unit]
  have := (i 1).isLt
  simp [Fin.forall_fin_succ] at this ⊢
  omega

/-! ## What is written -/

/-- A product seen as a block of one slot. -/
theorem cast_at {n : ℕ} (v : FVec F (SC n) .f32) (x : (SB n).Idx) :
    shapeCast (SB n) v (castsB n) x = v (ix2 (x 1) (x 2)) := by
  refine (shapeCast_addUnit_apply ![16, n] v (castsB n) x).trans (congrArg v ?_)
  funext a
  match a with
  | ⟨0, _⟩ => rfl
  | ⟨1, _⟩ => rfl

/-- Four rows of a slot as a copy reads them. -/
theorem src_read {b p : ℕ} {hp : p < 4} (f : Vec F S6x16x100000 .f32) (r : Fin 4) (j : Fin 100000) :
    (srcM b p hp).view.read (Elt F) f (ix2 r j)
      = f (ix3 ⟨b % 6, slot_lt b⟩ ⟨4 * p + r.val, by omega⟩ j) := by
  refine (shapeCast_dropUnit_apply ![4, 100000] (mB.view.readAt (Elt F) (Rect.unit (s := S6x16x100000) ![b % 6, 4 * p, 0]
    S1x4x100000.size (inbS (slot_lt b) hp)).toLoadRect f) Gen.squeezes_S1x4x100000_S4x100000.numel_eq (ix2 r j)).trans ?_
  refine congrArg f ?_
  funext a
  match a with
  | ⟨0, _⟩ => exact Fin.ext (Nat.add_zero _)
  | ⟨1, _⟩ => exact Fin.ext (congrArg (4 * p + ·) (Nat.one_mul _))
  | ⟨2, _⟩ => exact Fin.ext ((Nat.zero_add _).trans (Nat.one_mul _))

/-- Storing a band's chunk leaves the band at the chunk's columns and the rest as it was. -/
theorem store_chunk {o n : ℕ} {ho : o + n ≤ 100000} (hc : IsChunk o n ho)
    (xn : FVec F S1024x32 .f32) (ff : Vec F S32x100000 .f32) (b : ℕ) (hb : b < 64) (f : Vec F S6x16x100000 .f32)
    (hf : ∀ i : S6x16x100000.Idx, (i 0).val = b % 6 → (i 2).val < o → f i = BB xn ff b hb i) :
    ∀ i : S6x16x100000.Idx, (i 0).val = b % 6 → (i 2).val < o + n →
      (mB.access (rB b o n ho)).write (Elt F) f (shapeCast (SB n) (prod xn b hb n (feat ff o n ho)) (castsB n)) Finset.univ i
        = BB xn ff b hb i := by
  intro i h0 h2
  by_cases hi : i ∈ (mB.access (rB b o n ho)).set
  · obtain ⟨x, -, rfl⟩ := Finset.mem_map.mp hi
    rw [View.write_emb_of_mem _ _ (Finset.mem_univ x)]
    rw [cast_eq]
    refine (cast_at _ x).trans ((hc xn ff b hb (x 1) (x 2) _ ?_).symm.trans (congrArg₂ (bandAt xn ff b hb) (Fin.ext ?_) rfl))
    · exact congrArg (o + ·) (Nat.one_mul _)
    · exact ((Nat.zero_add _).trans (Nat.one_mul _)).symm
  · rw [View.write_of_not_mem _ _ _ (by rw [View.setOn_univ]; exact hi)]
    rw [mem_rB] at hi
    exact hf i h0 (by omega)

/-- A copy of four rows of a band's slot leaves the result's value on its four rows. -/
theorem copy_rows (xn : FVec F S1024x32 .f32) (ff : Vec F S32x100000 .f32) (b : ℕ) (hb : b < 64) (p : ℕ) (hp : p < 4)
    (g : Vec F S1024x100000 .f32) :
    ∀ i ∈ (dstM b p hb hp).view.set,
      (dstM b p hb hp).view.write (Elt F) g (ReadAs.same.apply ((srcM b p hp).view.read (Elt F) (BB xn ff b hb))) Finset.univ i
        = GG xn ff i := by
  intro i hi
  obtain ⟨x, -, rfl⟩ := Finset.mem_map.mp hi
  rw [View.write_emb_of_mem _ _ (Finset.mem_univ x)]
  obtain ⟨r, j, rfl⟩ : ∃ (r : Fin 4) (j : Fin 100000), x = ix2 r j := ⟨x 0, x 1, eq_ix2 x⟩
  rw [cast_eq]
  refine (src_read _ r j).trans ?_
  have h0 : ((dstM b p hb hp).view.emb (ix2 r j) 0).val = 16 * b + 4 * p + r.val :=
    congrArg (16 * b + 4 * p + ·) (Nat.one_mul _)
  have h1 : (dstM b p hb hp).view.emb (ix2 r j) 1 = j := Fin.ext ((Nat.zero_add _).trans (Nat.one_mul _))
  have hr := r.isLt
  unfold BB GG
  generalize (dstM b p hb hp).view.emb (ix2 r j) = y at h0 h1
  rw [h1]
  exact bandAt_congr xn ff (by omega) (by dsimp only [ix3_1]; omega) j

end Cert.Kernel.Bands
-- ==== Proof.Steps.lean ====
/- The steps of the kernel: a chunk, a copy started, a copy waited for.

   Each step is stated as what the core holds before it and after it. A copy in flight is held as the promise of what it
   delivers: four rows of the result at their value, and the four rows of the slot back. -/
module

public import proofs.«01_k».proof.Proof.Values
public import Idealize.ShloMosaic.Lib.Pipeline.FrameBody
public import Idealize.ShloMosaic.Lib.Pipeline.Kit
public import Idealize.ShloMosaic.Lib.Transfers
public import Idealize.ShloMosaic.Lib.Ring
public import Idealize.ShloMosaic.Lib.Tactic

@[expose] public section

set_option maxRecDepth 16384

noncomputable section

namespace Cert.Kernel.Bands

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Programs and what they do -/

/-- From `P` the core runs the program to `Q`, in any table. -/
def Runs (c : Dev nD) (P : sProp 𝕄) (p : Pg F PUnit) (Q : sProp 𝕄) : Prop :=
  ∀ D : Defs nD τ sig (Elt F) Λ₀, P ⊢ wp frame (wpE D Variants.none (c : Thread nD τ) none) Set.univ p (fun _ => Q)

/-- One program after another. -/
theorem Runs.seq {c : Dev nD} {P Q R : sProp 𝕄} {p q : Pg F PUnit} (hp : Runs c P p Q) (hq : Runs c Q q R) :
    Runs c P (p >>= fun _ => q) R := by
  intro D
  rw [wp_bind]
  exact (hp D).trans (wp_mono _ _ _ fun _ => hq D)

/-- More held before, less stated after. -/
theorem Runs.conseq {c : Dev nD} {P P' Q Q' : sProp 𝕄} {p : Pg F PUnit} (h : Runs c P p Q) (hP : P' ⊢ P) (hQ : Q ⊢ Q') :
    Runs c P' p Q' :=
  fun D => hP.trans ((h D).trans (wp_mono _ _ _ fun _ => hQ))

/-- What a program does not touch stays held. -/
theorem Runs.frame {c : Dev nD} {P Q : sProp 𝕄} {p : Pg F PUnit} (R : sProp 𝕄) (h : Runs c P p Q) :
    Runs c iprop(P ∗ R) p iprop(Q ∗ R) :=
  fun D => (Laws.sep_mono (h D) .rfl).trans (wp_frame_r _ _ _)

/-- What is held at the end of a program. -/
theorem done (c : Dev nD) (Q : sProp 𝕄) : Runs c Q (.ret PUnit.unit) Q := by
  intro D
  rw [wp_ret]
  iintro H; imodintro; iexact H

/-- A loop carries an invariant. -/
theorem loop_runs {c : Dev nD} {m : ℕ} (f : (b : ℕ) → b < m → Pg F PUnit) (I : ℕ → sProp 𝕄) :
    ∀ (n a : ℕ) (h : a + n ≤ m), (∀ b (hb : b < m), a ≤ b → b < a + n → Runs c (I b) (f b hb) (I (b + 1))) →
      Runs c (I a) (loop f n a h) (I (a + n))
  | 0, a, h, _ => by
    exact done c _
  | n + 1, a, h, hf => by
    refine (hf a (by omega) le_rfl (by omega)).seq ?_
    have := loop_runs f I n (a + 1) (by omega) (fun b hb h₁ h₂ => hf b hb (by omega) (by omega))
    exact this.conseq .rfl (Entails.of_eq (congrArg I (by omega)))

/-! ## What the core holds -/

/-- Elements of the kernel's buffer. -/
abbrev bufAt (c : Dev nD) (S : Finset S6x16x100000.Idx) (f : Vec F S6x16x100000 .f32) : sProp 𝕄 :=
  mB.view.loc (c : Thread nD τ) ↦[S]{fullShare} f

/-- Elements of the result. -/
abbrev resAt (c : Dev nD) (S : Finset S1024x100000.Idx) (g : Vec F S1024x100000 .f32) : sProp 𝕄 :=
  mO.view.loc (c : Thread nD τ) ↦[S]{fullShare} g

/-- The staged features. -/
abbrev featAt (c : Dev nD) (ff : Vec F S32x100000 .f32) : sProp 𝕄 :=
  mF.view.loc (c : Thread nD τ) ↦{fullShare} ff

/-- The counter of a band's `p`-th copy, at zero. -/
abbrev idleCell (c : Dev nD) (b p : ℕ) (hp : p < 4) : sProp 𝕄 :=
  semVal ((c : Thread nD τ), SemLoc.dma (cell (b % 6 * 4 + p) (cell_lt hp))) 0

/-- The core has recorded some waits and owes nothing. -/
abbrev free (c : Dev nD) : sProp 𝕄 := iprop(∃ W : Waits sig Unit, owes (c : Thread nD τ) 0 W)

/-- What a band's `p`-th copy delivers. -/
abbrev delivers (c : Dev nD) (xn : FVec F S1024x32 .f32) (ff : Vec F S32x100000 .f32) (b : ℕ) (hb : b < 64) (p : ℕ) (hp : p < 4) :
    sProp 𝕄 :=
  iprop(resAt c (dstM b p hb hp).view.set (GG xn ff) ∗ bufAt c (srcM b p hp).view.set (BB xn ff b hb))

/-- A band's `p`-th copy in flight. -/
abbrev flight (c : Dev nD) (xn : FVec F S1024x32 .f32) (ff : Vec F S32x100000 .f32) (b : ℕ) (hb : b < 64) (p : ℕ) (hp : p < 4) :
    sProp 𝕄 :=
  Transfers.Flight (countersEmb (U := Pipeline.UD sig nD τ)) (c : Thread nD τ) (SemLoc.dma (cell (b % 6 * 4 + p) (cell_lt hp))) ()
    ((dstM b p hb hp).view.dmaCredit) (delivers c xn ff b hb p hp)

/-! ## The steps -/

/-- A copy started. -/
theorem send_runs (c : Dev nD) (xn : FVec F S1024x32 .f32) (ff : Vec F S32x100000 .f32) (b : ℕ) (hb : b < 64) (p : ℕ) (hp : p < 4)
    (g : Vec F S1024x100000 .f32) :
    Runs c iprop(bufAt c (srcM b p hp).view.set (BB xn ff b hb) ∗ resAt c (dstM b p hb hp).view.set g ∗ idleCell c b p hp)
      (send b hb p hp) (flight c xn ff b hb p hp) := by
  intro D
  unfold send
  iintro H
  iapply (Transfers.wp_dmaLocal (countersEmb (U := Pipeline.UD sig nD τ)) Variants.none (c : Thread nD τ) none
    (src := srcM b p hp) (dst := dstM b p hb hp) (via := ReadAs.same) (fs := BB xn ff b hb) (fd := g) ()
    ((dstM b p hb hp).view.dmaCredit) rfl (View.dmaCredit_pos _ (by decide)) (Finset.Subset.refl _)) $$ H
  iintro H
  iapply (done c _ D)
  iapply (Transfers.Flight_mono (countersEmb (U := Pipeline.UD sig nD τ)) (c : Thread nD τ) (D' := delivers c xn ff b hb p hp) ?_) $$ H
  exact Laws.sep_mono (Entails.of_eq (pointsTo_congr (copy_rows xn ff b hb p hp g))) .rfl

/-- A copy waited for. -/
theorem collect_runs (c : Dev nD) (xn : FVec F S1024x32 .f32) (ff : Vec F S32x100000 .f32) (b : ℕ) (hb : b < 64) (p : ℕ) (hp : p < 4) :
    Runs c iprop(flight c xn ff b hb p hp ∗ free c) (collect b hb p hp)
      iprop(delivers c xn ff b hb p hp ∗ idleCell c b p hp ∗ free c) := by
  intro D
  unfold collect
  iintro ⟨H, ⟨%W, HW⟩⟩
  iapply (Transfers.wp_waitLocal (countersEmb (U := Pipeline.UD sig nD τ)) Variants.none (c : Thread nD τ) none
    (srcw := srcM b p hp) (dstw := dstM b p hb hp) () rfl (W := W)) $$ [H HW]
  · isplitl [H] <;> iassumption
  iintro ⟨HD, HS, HW⟩
  iapply (done c _ D)
  isplitl [HD]; · iexact HD
  isplitl [HS]; · iexact HS
  iexists _; iexact HW

/-- The elements of the buffer agree with a band on the columns below `o`. -/
def Agrees (xn : FVec F S1024x32 .f32) (ff : Vec F S32x100000 .f32) (b : ℕ) (hb : b < 64) (o : ℕ) (f : Vec F S6x16x100000 .f32) : Prop :=
  ∀ i : S6x16x100000.Idx, (i 0).val = b % 6 → (i 2).val < o → f i = BB xn ff b hb i

/-- The slot of a band, holding the band on the columns below `o`. -/
abbrev partly (c : Dev nD) (xn : FVec F S1024x32 .f32) (ff : Vec F S32x100000 .f32) (b : ℕ) (hb : b < 64) (o : ℕ) : sProp 𝕄 :=
  iprop(∃ f, ⌜Agrees xn ff b hb o f⌝ ∗ bufAt c (slotGe (b % 6) 0) f)

/-- A chunk of the band computed and stored. -/
theorem chunk_runs (c : Dev nD) (xn : FVec F S1024x32 .f32) (ff : Vec F S32x100000 .f32) (b : ℕ) (hb : b < 64) (o n : ℕ) (hn : 0 < n)
    (ho : o + n ≤ 100000) (hc : IsChunk o n ho) :
    Runs c iprop(featAt c ff ∗ partly c xn ff b hb o) (chunk xn b hb o n hn ho) iprop(featAt c ff ∗ partly c xn ff b hb (o + n)) := by
  have hsub : (mB.access (rB b o n ho)).set ⊆ slotGe (b % 6) 0 := fun i hi => by
    have := (mem_rB i).mp hi
    simp [slotGe, this.1]
  intro D
  unfold chunk
  iintro ⟨HF, ⟨%f, %hf, HB⟩⟩
  iapply (wp_load_rect Variants.none (c : Thread nD τ) none Set.univ (m := mF) (r := rF o n ho) (f := ff) (S := Finset.univ)
    (Finset.subset_univ _)) $$ HF
  iintro HF
  iapply (wp_load_rect Variants.none (c : Thread nD τ) none Set.univ (m := mB) (r := rB b o n ho) (f := f) hsub) $$ HB
  iintro HB
  iapply (wp_store Variants.none (c : Thread nD τ) none Set.univ (m := mB) (r := rB b o n ho) (f := f) hsub) $$ HB
  iintro HB
  iapply (done c _ D)
  isplitl [HF]; · iexact HF
  iexists _
  isplitr; swap; · iexact HB
  ipureintro
  exact store_chunk hc xn ff b hb f hf

end Cert.Kernel.Bands
-- ==== Proof.Bands.lean ====
/- The bands of the kernel, and the whole kernel.

   A band's four chunks fill its slot; its four copies carry the slot away; waiting for them brings the slot back and the
   band's sixteen rows at their value. The kernel carries through its sixty-four bands: which rows of the result are at
   their value, which are untouched, which bands' copies are in flight and which slots are free. -/
module

public import proofs.«01_k».proof.Proof.Steps

@[expose] public section

set_option maxRecDepth 16384

noncomputable section

namespace Cert.Kernel.Bands

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## A run of holdings -/

/-- Holdings that give each other are equal. -/
theorem eq_of {P Q : sProp 𝕄} (h : P ⊢ Q) (h' : Q ⊢ P) : P = Q := Entails.antisymm h h'

theorem assoc_eq (P Q R : sProp 𝕄) : iprop((P ∗ Q) ∗ R) = iprop(P ∗ Q ∗ R) :=
  Entails.antisymm Idealize.SL.BI.sep_assoc Idealize.SL.BI.sep_assoc'

theorem sepEmp_eq (P : sProp 𝕄) : iprop(P ∗ emp) = P := equiv_iff.mp Idealize.SL.BI.sep_emp

theorem empSep_eq (P : sProp 𝕄) : iprop(emp ∗ P) = P := equiv_iff.mp Idealize.SL.BI.emp_sep

/-- `f a`, `f (a + 1)`, …: `n` of them, all held. -/
def many (f : ℕ → sProp 𝕄) : ℕ → ℕ → sProp 𝕄
  | 0, _ => iprop(emp)
  | n + 1, a => iprop(f a ∗ many f n (a + 1))

/-- A run of holdings is its first part and its second part. -/
theorem many_append (f : ℕ → sProp 𝕄) (k : ℕ) : ∀ n a : ℕ, many f (n + k) a = iprop(many f n a ∗ many f k (a + n))
  | 0, a => by rw [Nat.zero_add, Nat.add_zero]; exact (empSep_eq _).symm
  | n + 1, a => by
    rw [show n + 1 + k = (n + k) + 1 by omega]
    change iprop(f a ∗ many f (n + k) (a + 1)) = iprop((f a ∗ many f n (a + 1)) ∗ many f k (a + (n + 1)))
    rw [many_append f k n (a + 1), assoc_eq, show a + 1 + n = a + (n + 1) by omega]

/-- A run of one. -/
theorem many_one (f : ℕ → sProp 𝕄) (a : ℕ) : many f 1 a = f a := sepEmp_eq _

/-- A run with one more at its end. -/
theorem many_snoc (f : ℕ → sProp 𝕄) (n a : ℕ) : many f (n + 1) a = iprop(many f n a ∗ f (a + n)) := by
  rw [many_append, many_one]

/-- A run with its first apart. -/
theorem many_cons (f : ℕ → sProp 𝕄) {n : ℕ} (hn : 0 < n) (a : ℕ) : many f n a = iprop(f a ∗ many f (n - 1) (a + 1)) := by
  obtain ⟨k, rfl⟩ : ∃ k, n = k + 1 := ⟨n - 1, by omega⟩
  rfl

/-- Runs of equal holdings are equal. -/
theorem many_congr (f g : ℕ → sProp 𝕄) : ∀ n a a' : ℕ, (∀ k < n, f (a + k) = g (a' + k)) → many f n a = many g n a'
  | 0, _, _, _ => rfl
  | n + 1, a, a', h => by
    unfold many
    have h0 : f a = g a' := h 0 (by omega)
    rw [h0, many_congr f g n (a + 1) (a' + 1) fun k hk => by
      have := h (k + 1) (by omega)
      rwa [show a + (k + 1) = a + 1 + k by omega, show a' + (k + 1) = a' + 1 + k by omega] at this]

/-- A run in blocks of four. -/
theorem many_blocks (f : ℕ → sProp 𝕄) : ∀ n a : ℕ, many f (4 * n) (4 * a) = many (fun b => many (fun p => f (4 * b + p)) 4 0) n a
  | 0, _ => rfl
  | n + 1, a => by
    rw [show 4 * (n + 1) = 4 + 4 * n by omega, many_append, show 4 * a + 4 = 4 * (a + 1) by omega, many_blocks f n (a + 1)]
    refine congrArg (fun P => iprop(P ∗ many (fun b => many (fun p => f (4 * b + p)) 4 0) n (a + 1))) ?_
    exact many_congr _ _ 4 _ _ fun k _ => by rw [Nat.zero_add]

/-! ## The slot and the rows in fours -/

section Split

variable (c : Dev nD) (b : ℕ) (p : ℕ) (hp : p < 4)

/-- The next four rows of a slot, and the rest. -/
theorem buf_split (f : Vec F S6x16x100000 .f32) :
    (bufAt c (slotGe (b % 6) (4 * p)) f : sProp 𝕄)
      = iprop(bufAt c (srcM b p hp).view.set f ∗ bufAt c (slotGe (b % 6) (4 * (p + 1))) f) := by
  have hd : Disjoint (srcM b p hp).view.set (slotGe (b % 6) (4 * (p + 1))) :=
    Finset.disjoint_left.mpr fun i h h' => by
      have h₁ := (mem_src i).mp h
      have h₂ := (Finset.mem_filter.mp h').2
      omega
  have hu : slotGe (b % 6) (4 * p) = (srcM b p hp).view.set ∪ slotGe (b % 6) (4 * (p + 1)) := by
    ext i
    rw [Finset.mem_union, mem_src]
    simp only [slotGe, Finset.mem_filter, Finset.mem_univ, true_and]
    omega
  rw [hu]
  exact Entails.antisymm (pointsTo_union hd).1 (pointsTo_union hd).2

/-- The rows of a slot so far, and the next four. -/
theorem buf_join (f : Vec F S6x16x100000 .f32) :
    (bufAt c (slotLt (b % 6) (4 * (p + 1))) f : sProp 𝕄)
      = iprop(bufAt c (slotLt (b % 6) (4 * p)) f ∗ bufAt c (srcM b p hp).view.set f) := by
  have hd : Disjoint (slotLt (b % 6) (4 * p)) (srcM b p hp).view.set :=
    Finset.disjoint_left.mpr fun i h' h => by
      have h₁ := (mem_src i).mp h
      have h₂ := (Finset.mem_filter.mp h').2
      omega
  have hu : slotLt (b % 6) (4 * (p + 1)) = slotLt (b % 6) (4 * p) ∪ (srcM b p hp).view.set := by
    ext i
    rw [Finset.mem_union, mem_src]
    simp only [slotLt, Finset.mem_filter, Finset.mem_univ, true_and]
    omega
  rw [hu]
  exact Entails.antisymm (pointsTo_union hd).1 (pointsTo_union hd).2

variable (hb : b < 64)

/-- The next four rows of the result, and the rest. -/
theorem res_split (g : Vec F S1024x100000 .f32) :
    (resAt c (rowsGe (16 * b + 4 * p)) g : sProp 𝕄)
      = iprop(resAt c (dstM b p hb hp).view.set g ∗ resAt c (rowsGe (16 * b + 4 * (p + 1))) g) := by
  have hd : Disjoint (dstM b p hb hp).view.set (rowsGe (16 * b + 4 * (p + 1))) :=
    Finset.disjoint_left.mpr fun i h h' => by
      have h₁ := (mem_dst i).mp h
      have h₂ := (Finset.mem_filter.mp h').2
      omega
  have hu : rowsGe (16 * b + 4 * p) = (dstM b p hb hp).view.set ∪ rowsGe (16 * b + 4 * (p + 1)) := by
    ext i
    rw [Finset.mem_union, mem_dst]
    simp only [rowsGe, Finset.mem_filter, Finset.mem_univ, true_and]
    omega
  rw [hu]
  exact Entails.antisymm (pointsTo_union hd).1 (pointsTo_union hd).2

/-- The rows of the result so far, and the next four. -/
theorem res_join (g : Vec F S1024x100000 .f32) :
    (resAt c (rowsLt (16 * b + 4 * (p + 1))) g : sProp 𝕄)
      = iprop(resAt c (rowsLt (16 * b + 4 * p)) g ∗ resAt c (dstM b p hb hp).view.set g) := by
  have hd : Disjoint (rowsLt (16 * b + 4 * p)) (dstM b p hb hp).view.set :=
    Finset.disjoint_left.mpr fun i h' h => by
      have h₁ := (mem_dst i).mp h
      have h₂ := (Finset.mem_filter.mp h').2
      omega
  have hu : rowsLt (16 * b + 4 * (p + 1)) = rowsLt (16 * b + 4 * p) ∪ (dstM b p hb hp).view.set := by
    ext i
    rw [Finset.mem_union, mem_dst]
    simp only [rowsLt, Finset.mem_filter, Finset.mem_univ, true_and]
    omega
  rw [hu]
  exact Entails.antisymm (pointsTo_union hd).1 (pointsTo_union hd).2

end Split

/-! ## A band's counters, copies and slot -/

/-- The counter of a band's `p`-th copy at zero; nothing past the fourth. -/
def idleAt (c : Dev nD) (b p : ℕ) : sProp 𝕄 := if hp : p < 4 then idleCell c b p hp else iprop(emp)

/-- A band's `p`-th copy in flight; nothing past the fourth, or past the last band. -/
def flightAt (c : Dev nD) (xn : FVec F S1024x32 .f32) (ff : Vec F S32x100000 .f32) (b p : ℕ) : sProp 𝕄 :=
  if h : b < 64 ∧ p < 4 then flight c xn ff b h.1 p h.2 else iprop(emp)

/-- A band's four counters at zero. -/
abbrev idle (c : Dev nD) (b : ℕ) : sProp 𝕄 := many (idleAt c b) 4 0

/-- A band's four copies in flight. -/
abbrev fly (c : Dev nD) (xn : FVec F S1024x32 .f32) (ff : Vec F S32x100000 .f32) (b : ℕ) : sProp 𝕄 := many (flightAt c xn ff b) 4 0

/-- A band's slot, free: its rows hold anything, its counters are at zero. -/
def slot (c : Dev nD) (b : ℕ) : sProp 𝕄 := iprop((∃ f, bufAt c (slotGe (b % 6) 0) f) ∗ idle c b)

theorem idleAt_eq (c : Dev nD) (b p : ℕ) (hp : p < 4) : (idleAt c b p : sProp 𝕄) = idleCell c b p hp := dif_pos hp

theorem flightAt_eq (c : Dev nD) (xn : FVec F S1024x32 .f32) (ff : Vec F S32x100000 .f32) (b p : ℕ) (hb : b < 64) (hp : p < 4) :
    flightAt c xn ff b p = flight c xn ff b hb p hp := dif_pos ⟨hb, hp⟩

/-- Bands six apart use one slot. -/
theorem slot_congr (c : Dev nD) {b b' : ℕ} (h : b % 6 = b' % 6) : (slot c b : sProp 𝕄) = slot c b' := by
  unfold slot idle
  rw [h]
  refine congrArg (fun P => iprop((∃ f, bufAt c (slotGe (b' % 6) 0) f) ∗ P)) (many_congr _ _ 4 0 0 fun k hk => ?_)
  rw [Nat.zero_add, idleAt_eq c b k hk, idleAt_eq c b' k hk]
  unfold idleCell
  exact congrArg (fun l : SemLoc sig => (semVal ((c : Thread nD τ), l) 0 : sProp 𝕄))
    (congrArg SemLoc.dma (Fin.ext (by show 2 + (b % 6 * 4 + k) = 2 + (b' % 6 * 4 + k); rw [h])))

/-! ## A band -/

/-- The four chunks fill the slot with the band. -/
theorem chunks_runs (c : Dev nD) (xn : FVec F S1024x32 .f32) (ff : Vec F S32x100000 .f32) (b : ℕ) (hb : b < 64) :
    Runs c iprop(featAt c ff ∗ ∃ f, bufAt c (slotGe (b % 6) 0) f) (chunks xn b hb)
      iprop(featAt c ff ∗ bufAt c (slotGe (b % 6) 0) (BB xn ff b hb)) := by
  have h := (chunk_runs c xn ff b hb 0 25088 (by decide) (by decide) isChunk0).seq
    ((chunk_runs c xn ff b hb 25088 25088 (by decide) (by decide) isChunk1).seq
      ((chunk_runs c xn ff b hb 50176 25088 (by decide) (by decide) isChunk2).seq
        (chunk_runs c xn ff b hb 75264 24736 (by decide) (by decide) isChunk3)))
  refine Runs.conseq h ?_ ?_
  · iintro ⟨HF, ⟨%f, HB⟩⟩
    isplitl [HF]; · iexact HF
    iexists f
    isplitr; swap; · iexact HB
    ipureintro
    exact fun i _ h => absurd h (Nat.not_lt_zero _)
  · iintro ⟨HF, ⟨%f, %hf, HB⟩⟩
    isplitl [HF]; · iexact HF
    have e : (bufAt c (slotGe (b % 6) 0) f : sProp 𝕄) = bufAt c (slotGe (b % 6) 0) (BB xn ff b hb) :=
      pointsTo_congr fun i hi => hf i (Finset.mem_filter.mp hi).2.1 (i 2).isLt
    rw [← e]
    iexact HB

/-- The four copies of a band started. -/
theorem sends_runs (c : Dev nD) (xn : FVec F S1024x32 .f32) (ff : Vec F S32x100000 .f32) (b : ℕ) (hb : b < 64)
    (g : Vec F S1024x100000 .f32) :
    Runs c iprop(bufAt c (slotGe (b % 6) 0) (BB xn ff b hb) ∗ idle c b ∗ resAt c (rowsGe (16 * b)) g) (sends b hb)
      iprop(fly c xn ff b ∗ resAt c (rowsGe (16 * (b + 1))) g) := by
  refine Runs.conseq (loop_runs (m := 4) (send b hb) (fun p => iprop(bufAt c (slotGe (b % 6) (4 * p)) (BB xn ff b hb)
    ∗ many (idleAt c b) (4 - p) p ∗ many (flightAt c xn ff b) p 0 ∗ resAt c (rowsGe (16 * b + 4 * p)) g)) 4 0 (by decide) ?_) ?_ ?_
  · intro p hp _ _
    refine Runs.conseq ((send_runs c xn ff b hb p hp g).frame iprop(bufAt c (slotGe (b % 6) (4 * (p + 1))) (BB xn ff b hb)
      ∗ many (idleAt c b) (4 - (p + 1)) (p + 1) ∗ many (flightAt c xn ff b) p 0 ∗ resAt c (rowsGe (16 * b + 4 * (p + 1))) g)) ?_ ?_
    · rw [buf_split c b p hp, res_split c b p hp hb, many_cons (idleAt c b) (by omega : 0 < 4 - p), idleAt_eq c b p hp,
        show 4 - p - 1 = 4 - (p + 1) by omega]
      iintro ⟨⟨HB, HB'⟩, ⟨HS, HS'⟩, HF, HR, HR'⟩
      isplitl [HB HS HR]
      · isplitl [HB]; · iexact HB
        isplitl [HR]; · iexact HR
        iexact HS
      isplitl [HB']; · iexact HB'
      isplitl [HS']; · iexact HS'
      isplitl [HF]; · iexact HF
      iexact HR'
    · rw [many_snoc (flightAt c xn ff b), Nat.zero_add, flightAt_eq c xn ff b p hb hp]
      iintro ⟨HN, HB, HS, HF, HR⟩
      isplitl [HB]; · iexact HB
      isplitl [HS]; · iexact HS
      isplitl [HN HF]
      · isplitl [HF]; · iexact HF
        iexact HN
      iexact HR
  · iintro ⟨HB, HS, HR⟩
    isplitl [HB]; · iexact HB
    isplitl [HS]; · iexact HS
    isplitl []; · iempintro
    iexact HR
  · iintro ⟨-, -, HF, HR⟩
    isplitl [HF]; · iexact HF
    iexact HR

/-- The four copies of a band waited for. -/
theorem collects_runs (c : Dev nD) (xn : FVec F S1024x32 .f32) (ff : Vec F S32x100000 .f32) (b : ℕ) (hb : b < 64) :
    Runs c iprop(fly c xn ff b ∗ resAt c (rowsLt (16 * b)) (GG xn ff) ∗ free c) (collects b hb)
      iprop(slot c b ∗ resAt c (rowsLt (16 * (b + 1))) (GG xn ff) ∗ free c) := by
  refine Runs.conseq (loop_runs (m := 4) (collect b hb) (fun p => iprop(many (flightAt c xn ff b) (4 - p) p
    ∗ many (idleAt c b) p 0 ∗ bufAt c (slotLt (b % 6) (4 * p)) (BB xn ff b hb)
    ∗ resAt c (rowsLt (16 * b + 4 * p)) (GG xn ff) ∗ free c)) 4 0 (by decide) ?_) ?_ ?_
  · intro p hp _ _
    refine Runs.conseq ((collect_runs c xn ff b hb p hp).frame iprop(many (flightAt c xn ff b) (4 - (p + 1)) (p + 1)
      ∗ many (idleAt c b) p 0 ∗ bufAt c (slotLt (b % 6) (4 * p)) (BB xn ff b hb) ∗ resAt c (rowsLt (16 * b + 4 * p)) (GG xn ff))) ?_ ?_
    · rw [many_cons (flightAt c xn ff b) (by omega : 0 < 4 - p), flightAt_eq c xn ff b p hb hp,
        show 4 - p - 1 = 4 - (p + 1) by omega]
      iintro ⟨⟨HN, HN'⟩, HS, HB, HR, HO⟩
      isplitl [HN HO]
      · isplitl [HN]; · iexact HN
        iexact HO
      isplitl [HN']; · iexact HN'
      isplitl [HS]; · iexact HS
      isplitl [HB]; · iexact HB
      iexact HR
    · rw [buf_join c b p hp, res_join c b p hp hb, many_snoc (idleAt c b), Nat.zero_add, idleAt_eq c b p hp]
      iintro ⟨⟨⟨HR', HB'⟩, HS', HO⟩, HN, HS, HB, HR⟩
      isplitl [HN]; · iexact HN
      isplitl [HS HS']
      · isplitl [HS]; · iexact HS
        iexact HS'
      isplitl [HB HB']
      · isplitl [HB]; · iexact HB
        iexact HB'
      isplitl [HR HR']
      · isplitl [HR]; · iexact HR
        iexact HR'
      iexact HO
  · rw [show slotLt (b % 6) (4 * 0) = ∅ from Finset.filter_eq_empty_iff.mpr fun i _ h => Nat.not_lt_zero _ h.2]
    iintro ⟨HN, HR, HO⟩
    isplitl [HN]; · iexact HN
    isplitl []; · iempintro
    isplitl []
    · rw [show (bufAt c ∅ (BB xn ff b hb) : sProp 𝕄) = iprop(emp) from pointsTo_empty]
      iempintro
    isplitl [HR]; · iexact HR
    iexact HO
  · have e : slotLt (b % 6) (4 * (0 + 4)) = slotGe (b % 6) 0 :=
      Finset.filter_congr fun i _ => by
        have : (i 1).val < 16 := (i 1).isLt
        omega
    rw [e]
    unfold slot
    iintro ⟨-, HS, HB, HR, HO⟩
    isplitl [HB HS]
    · isplitl [HB]; · iexists _; iexact HB
      iexact HS
    isplitl [HR]; · iexact HR
    iexact HO

/-- A band over a free slot: computed, and its copies started. -/
theorem fresh_runs (c : Dev nD) (xn : FVec F S1024x32 .f32) (ff : Vec F S32x100000 .f32) (b : ℕ) (hb : b < 64)
    (g : Vec F S1024x100000 .f32) :
    Runs c iprop(featAt c ff ∗ slot c b ∗ resAt c (rowsGe (16 * b)) g) (fresh xn b hb)
      iprop(featAt c ff ∗ fly c xn ff b ∗ resAt c (rowsGe (16 * (b + 1))) g) := by
  refine Runs.conseq (((chunks_runs c xn ff b hb).frame iprop(idle c b ∗ resAt c (rowsGe (16 * b)) g)).seq
    (Runs.conseq ((sends_runs c xn ff b hb g).frame (featAt c ff)) ?_ ?_)) ?_ .rfl
  · iintro ⟨⟨HF, HB⟩, HS, HR⟩
    isplitl [HB HS HR]
    · isplitl [HB]; · iexact HB
      isplitl [HS]; · iexact HS
      iexact HR
    iexact HF
  · iintro ⟨⟨HN, HR⟩, HF⟩
    isplitl [HF]; · iexact HF
    isplitl [HN]; · iexact HN
    iexact HR
  · unfold slot
    iintro ⟨HF, ⟨HB, HS⟩, HR⟩
    isplitl [HF HB]
    · isplitl [HF]; · iexact HF
      iexact HB
    isplitl [HS]; · iexact HS
    iexact HR

/-- A band over a slot in flight: the band six before waited for, then this one as over a free slot. -/
theorem again_runs (c : Dev nD) (xn : FVec F S1024x32 .f32) (ff : Vec F S32x100000 .f32) (b : ℕ) (hb : b < 64) (h6 : 6 ≤ b)
    (g : Vec F S1024x100000 .f32) :
    Runs c iprop(featAt c ff ∗ fly c xn ff (b - 6) ∗ resAt c (rowsLt (16 * (b - 6))) (GG xn ff) ∗ resAt c (rowsGe (16 * b)) g ∗ free c)
      (again xn b hb)
      iprop(featAt c ff ∗ fly c xn ff b ∗ resAt c (rowsLt (16 * (b + 1 - 6))) (GG xn ff) ∗ resAt c (rowsGe (16 * (b + 1))) g ∗ free c) := by
  have e : (slot c (b - 6) : sProp 𝕄) = slot c b := slot_congr c (by omega)
  refine Runs.conseq (((collects_runs c xn ff (b - 6) (by omega)).frame iprop(featAt c ff ∗ resAt c (rowsGe (16 * b)) g)).seq
    (Runs.conseq ((fresh_runs c xn ff b hb g).frame iprop(resAt c (rowsLt (16 * (b - 6 + 1))) (GG xn ff) ∗ free c)) ?_ ?_)) ?_ .rfl
  · rw [e]
    iintro ⟨⟨HS, HL, HO⟩, HF, HR⟩
    isplitl [HF HS HR]
    · isplitl [HF]; · iexact HF
      isplitl [HS]; · iexact HS
      iexact HR
    isplitl [HL]; · iexact HL
    iexact HO
  · rw [show b + 1 - 6 = b - 6 + 1 by omega]
    iintro ⟨⟨HF, HN, HR⟩, HL, HO⟩
    isplitl [HF]; · iexact HF
    isplitl [HN]; · iexact HN
    isplitl [HL]; · iexact HL
    isplitl [HR]; · iexact HR
    iexact HO
  · iintro ⟨HF, HN, HL, HR, HO⟩
    isplitl [HN HL HO]
    · isplitl [HN]; · iexact HN
      isplitl [HL]; · iexact HL
      iexact HO
    isplitl [HF]; · iexact HF
    iexact HR

end Cert.Kernel.Bands
-- ==== Proof.Whole.lean ====
/- The whole kernel: from the staged input and features, the buffer and the counters at zero, it brings every row of the
   result to its value and gives everything else back. -/
module

public import proofs.«01_k».proof.Proof.Bands

@[expose] public section

set_option maxRecDepth 16384

noncomputable section

namespace Cert.Kernel.Bands

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The buffer by slots -/

/-- Two runs held together, pair by pair. -/
theorem many_zip (f g : ℕ → sProp 𝕄) : ∀ n a : ℕ, iprop(many f n a ∗ many g n a) = many (fun k => iprop(f k ∗ g k)) n a
  | 0, _ => sepEmp_eq _
  | n + 1, a => by
    change iprop((f a ∗ many f n (a + 1)) ∗ (g a ∗ many g n (a + 1))) = iprop((f a ∗ g a) ∗ many (fun k => iprop(f k ∗ g k)) n (a + 1))
    rw [← many_zip f g n (a + 1)]
    refine eq_of ?_ ?_
    · iintro ⟨⟨H1, H2⟩, H3, H4⟩
      isplitl [H1 H3]
      · isplitl [H1]; · iexact H1
        iexact H3
      isplitl [H2]; · iexact H2
      iexact H4
    · iintro ⟨⟨H1, H3⟩, H2, H4⟩
      isplitl [H1 H2]
      · isplitl [H1]; · iexact H1
        iexact H2
      isplitl [H3]; · iexact H3
      iexact H4

/-- The slots from `a` on, and those below `a`. -/
def slotsGe (a : ℕ) : Finset S6x16x100000.Idx := Finset.univ.filter fun i => a ≤ (i 0).val
def slotsLt (a : ℕ) : Finset S6x16x100000.Idx := Finset.univ.filter fun i => (i 0).val < a

/-- A slot's rows, holding anything. -/
abbrev room (c : Dev nD) (s : ℕ) : sProp 𝕄 := iprop(∃ f, bufAt c (slotGe s 0) f)

/-- The slots from `a` on, one by one. -/
theorem rooms_of (c : Dev nD) (f : Vec F S6x16x100000 .f32) : ∀ n a : ℕ, (bufAt c (slotsGe a) f : sProp 𝕄) ⊢ many (room c) n a
  | 0, a => by unfold many; iintro -; iempintro
  | n + 1, a => by
    have hd : Disjoint (slotGe a 0) (slotsGe (a + 1)) := Finset.disjoint_left.mpr fun i h h' => by
      have h₁ := (Finset.mem_filter.mp h).2
      have h₂ := (Finset.mem_filter.mp h').2
      omega
    have hu : slotsGe a = slotGe a 0 ∪ slotsGe (a + 1) := by
      ext i
      simp only [slotGe, slotsGe, Finset.mem_union, Finset.mem_filter, Finset.mem_univ, true_and]
      omega
    rw [hu]
    refine (pointsTo_union hd).1.trans (Laws.sep_mono ?_ (rooms_of c f n (a + 1)))
    iintro H; iexists f; iexact H

/-- The slots below `a`, put together one by one. -/
theorem of_rooms (c : Dev nD) : ∀ n a : ℕ,
    iprop((∃ f, bufAt c (slotsLt a) f) ∗ many (room c) n a) ⊢ (∃ f, bufAt c (slotsLt (a + n)) f : sProp 𝕄)
  | 0, a => by iintro ⟨H, -⟩; iexact H
  | n + 1, a => by
    have hd : Disjoint (slotsLt a) (slotGe a 0) := Finset.disjoint_left.mpr fun i h h' => by
      have h₁ := (Finset.mem_filter.mp h).2
      have h₂ := (Finset.mem_filter.mp h').2
      omega
    have hu : slotsLt a ∪ slotGe a 0 = slotsLt (a + 1) := by
      ext i
      simp only [slotGe, slotsLt, Finset.mem_union, Finset.mem_filter, Finset.mem_univ, true_and]
      omega
    have ih := of_rooms c n (a + 1)
    rw [show a + 1 + n = a + (n + 1) by omega] at ih
    refine BIBase.Entails.trans ?_ ih
    change iprop((∃ f, bufAt c (slotsLt a) f) ∗ (room c a ∗ many (room c) n (a + 1))) ⊢ _
    iintro ⟨⟨%f, Hf⟩, ⟨%g, Hg⟩, HR⟩
    isplitl [Hf Hg]
    · have hj := pointsTo_join (ℓ := mB.view.loc (c : Thread nD τ)) (q := fullShare) (f := f) (g := g)
        (Ix := Unit) (Val := Elt F) (Name := ℕ) (U := Pipeline.UD sig nD τ) (Lvl := ℕ) hd
      rw [hu] at hj
      iexists _
      iapply hj
      isplitl [Hf]; · iexact Hf
      iexact Hg
    iexact HR

/-- The whole buffer is its six slots. -/
theorem rooms_whole (c : Dev nD) : iprop(∃ f, bufAt c Finset.univ f) = (many (room c) 6 0 : sProp 𝕄) := by
  have h0 : slotsGe 0 = Finset.univ := Finset.filter_true_of_mem fun i _ => Nat.zero_le _
  have h1 : slotsLt 0 = ∅ := Finset.filter_eq_empty_iff.mpr fun i _ => Nat.not_lt_zero _
  have h6 : slotsLt (0 + 6) = Finset.univ := Finset.filter_true_of_mem fun i _ => (i 0).isLt
  refine eq_of ?_ ?_
  · iintro ⟨%f, H⟩
    have h := rooms_of c f 6 0
    rw [h0] at h
    iapply h; iexact H
  · have h := of_rooms (F := F) c 6 0
    rw [h1, h6] at h
    refine BIBase.Entails.trans ?_ h
    iintro H
    isplitl []
    · iexists fun _ => (Scalar.ofBits .f32 0x00000000#32 : F .f32)
      rw [show (bufAt c ∅ (fun _ => (Scalar.ofBits .f32 0x00000000#32 : F .f32)) : sProp 𝕄) = iprop(emp) from pointsTo_empty]
      iempintro
    iexact H

/-! ## The counters by slots -/

/-- The kernel's `k`-th counter at zero; nothing past the last. -/
def cellAt (c : Dev nD) (k : ℕ) : sProp 𝕄 :=
  if hk : k < 24 then semVal ((c : Thread nD τ), SemLoc.dma (cell k hk)) 0 else iprop(emp)

/-- The twenty-four counters are six slots of four. -/
theorem cells_eq (c : Dev nD) : (many (cellAt c) 24 0 : sProp 𝕄) = many (idle c) 6 0 := by
  refine (many_blocks (cellAt c) 6 0).trans (many_congr _ _ 6 0 0 fun b hb => many_congr _ _ 4 0 0 fun p hp => ?_)
  rw [Nat.zero_add, Nat.zero_add, idleAt_eq c b p hp]
  unfold cellAt
  rw [dif_pos (by omega : 4 * b + p < 24)]
  exact congrArg (fun l : SemLoc sig => (semVal ((c : Thread nD τ), l) 0 : sProp 𝕄))
    (congrArg SemLoc.dma (Fin.ext (by show 2 + (4 * b + p) = 2 + (b % 6 * 4 + p); omega)))

/-- The buffer and the counters are six free slots. -/
theorem slots_eq (c : Dev nD) :
    iprop((∃ f, bufAt c Finset.univ f) ∗ many (cellAt c) 24 0) = (many (slot c) 6 0 : sProp 𝕄) := by
  rw [rooms_whole, cells_eq, many_zip]
  exact many_congr _ _ 6 0 0 fun k hk => by
    unfold slot room
    rw [Nat.zero_add, Nat.mod_eq_of_lt hk]

/-- The last six bands' slots are the six slots. -/
theorem slots_last (c : Dev nD) : (many (slot c) 6 58 : sProp 𝕄) = many (slot c) 6 0 := by
  have h1 : (many (slot c) 2 58 : sProp 𝕄) = many (slot c) 2 4 := many_congr _ _ 2 58 4 fun k hk => slot_congr c (by omega)
  have h2 : (many (slot c) 4 60 : sProp 𝕄) = many (slot c) 4 0 := many_congr _ _ 4 60 0 fun k hk => slot_congr c (by omega)
  rw [show (6 : ℕ) = 2 + 4 from rfl, many_append (slot c) 4 2 58, h1, h2, show 2 + 4 = 4 + 2 from rfl, many_append (slot c) 2 4 0]
  exact Entails.antisymm Idealize.SL.BI.sep_comm Idealize.SL.BI.sep_comm

/-! ## The kernel -/

/-- The staged input. -/
abbrev inAt (c : Dev nD) (fx : Vec F S1024x32 .f32) : sProp 𝕄 := mX.view.loc (c : Thread nD τ) ↦{fullShare} fx

/-- The input as loaded. -/
def inRead (fx : Vec F S1024x32 .f32) : Vec F S1024x32 .f32 :=
  (mX.access (Rect.unit (s := S1024x32) ![0, 0] S1024x32.size Gen.inb_S1024x32_S1024x32_0_0)).read (Elt F) fx

/-- The first six bands. -/
theorem first_runs (c : Dev nD) (xn : FVec F S1024x32 .f32) (ff : Vec F S32x100000 .f32) (g : Vec F S1024x100000 .f32) :
    Runs c iprop(featAt c ff ∗ many (slot c) 6 0 ∗ resAt c (rowsGe 0) g) (loop (fresh xn) 6 0 (by decide))
      iprop(featAt c ff ∗ many (fly c xn ff) 6 0 ∗ resAt c (rowsGe (16 * 6)) g) := by
  refine Runs.conseq (loop_runs (fresh xn) (fun b => iprop(featAt c ff ∗ many (slot c) (6 - b) b ∗ many (fly c xn ff) b 0
    ∗ resAt c (rowsGe (16 * b)) g)) 6 0 (by decide) ?_) ?_ ?_
  · intro b hb _ h6
    refine Runs.conseq ((fresh_runs c xn ff b hb g).frame iprop(many (slot c) (6 - (b + 1)) (b + 1) ∗ many (fly c xn ff) b 0)) ?_ ?_
    · rw [many_cons (slot c) (by omega : 0 < 6 - b), show 6 - b - 1 = 6 - (b + 1) by omega]
      iintro ⟨HF, ⟨HS, HS'⟩, HN, HR⟩
      isplitl [HF HS HR]
      · isplitl [HF]; · iexact HF
        isplitl [HS]; · iexact HS
        iexact HR
      isplitl [HS']; · iexact HS'
      iexact HN
    · rw [many_snoc (fly c xn ff), Nat.zero_add]
      iintro ⟨⟨HF, HN, HR⟩, HS, HN'⟩
      isplitl [HF]; · iexact HF
      isplitl [HS]; · iexact HS
      isplitl [HN HN']
      · isplitl [HN']; · iexact HN'
        iexact HN
      iexact HR
  · iintro ⟨HF, HS, HR⟩
    isplitl [HF]; · iexact HF
    isplitl [HS]; · iexact HS
    isplitl []; · iempintro
    iexact HR
  · iintro ⟨HF, -, HN, HR⟩
    isplitl [HF]; · iexact HF
    isplitl [HN]; · iexact HN
    iexact HR

/-- The bands after them. -/
theorem middle_runs (c : Dev nD) (xn : FVec F S1024x32 .f32) (ff : Vec F S32x100000 .f32) (g : Vec F S1024x100000 .f32) :
    Runs c iprop(featAt c ff ∗ many (fly c xn ff) 6 0 ∗ resAt c (rowsLt 0) (GG xn ff) ∗ resAt c (rowsGe (16 * 6)) g ∗ free c)
      (loop (again xn) 58 6 (by decide))
      iprop(featAt c ff ∗ many (fly c xn ff) 6 58 ∗ resAt c (rowsLt (16 * 58)) (GG xn ff) ∗ free c) := by
  refine Runs.conseq (loop_runs (again xn) (fun b => iprop(featAt c ff ∗ many (fly c xn ff) 6 (b - 6)
    ∗ resAt c (rowsLt (16 * (b - 6))) (GG xn ff) ∗ resAt c (rowsGe (16 * b)) g ∗ free c)) 58 6 (by decide) ?_) .rfl ?_
  · intro b hb h6 _
    refine Runs.conseq ((again_runs c xn ff b hb h6 g).frame (many (fly c xn ff) 5 (b - 6 + 1))) ?_ ?_
    · rw [many_cons (fly c xn ff) (by decide : 0 < 6)]
      iintro ⟨HF, ⟨HN, HN'⟩, HL, HR, HO⟩
      isplitr [HN']
      · isplitl [HF]; · iexact HF
        isplitl [HN]; · iexact HN
        isplitl [HL]; · iexact HL
        isplitl [HR]; · iexact HR
        iexact HO
      iexact HN'
    · rw [show b + 1 - 6 = b - 6 + 1 by omega, many_snoc (fly c xn ff) 5, show b - 6 + 1 + 5 = b by omega]
      iintro ⟨⟨HF, HN, HL, HR, HO⟩, HN'⟩
      isplitl [HF]; · iexact HF
      isplitl [HN HN']
      · isplitl [HN']; · iexact HN'
        iexact HN
      isplitl [HL]; · iexact HL
      isplitl [HR]; · iexact HR
      iexact HO
  · iintro ⟨HF, HN, HL, -, HO⟩
    isplitl [HF]; · iexact HF
    isplitl [HN]; · iexact HN
    isplitl [HL]; · iexact HL
    iexact HO

/-- The last six bands' copies waited for. -/
theorem last_runs (c : Dev nD) (xn : FVec F S1024x32 .f32) (ff : Vec F S32x100000 .f32) :
    Runs c iprop(many (fly c xn ff) 6 58 ∗ resAt c (rowsLt (16 * 58)) (GG xn ff) ∗ free c) (loop collects 6 58 (by decide))
      iprop(many (slot c) 6 58 ∗ resAt c (rowsLt (16 * 64)) (GG xn ff) ∗ free c) := by
  refine Runs.conseq (loop_runs collects (fun b => iprop(many (fly c xn ff) (64 - b) b ∗ many (slot c) (b - 58) 58
    ∗ resAt c (rowsLt (16 * b)) (GG xn ff) ∗ free c)) 6 58 (by decide) ?_) ?_ ?_
  · intro b hb h58 _
    refine Runs.conseq ((collects_runs c xn ff b hb).frame iprop(many (fly c xn ff) (64 - (b + 1)) (b + 1) ∗ many (slot c) (b - 58) 58)) ?_ ?_
    · rw [many_cons (fly c xn ff) (by omega : 0 < 64 - b), show 64 - b - 1 = 64 - (b + 1) by omega]
      iintro ⟨⟨HN, HN'⟩, HS, HL, HO⟩
      isplitl [HN HL HO]
      · isplitl [HN]; · iexact HN
        isplitl [HL]; · iexact HL
        iexact HO
      isplitl [HN']; · iexact HN'
      iexact HS
    · rw [show b + 1 - 58 = b - 58 + 1 by omega, many_snoc (slot c), show 58 + (b - 58) = b by omega]
      iintro ⟨⟨HS, HL, HO⟩, HN, HS'⟩
      isplitl [HN]; · iexact HN
      isplitl [HS HS']
      · isplitl [HS']; · iexact HS'
        iexact HS
      isplitl [HL]; · iexact HL
      iexact HO
  · iintro ⟨HN, HL, HO⟩
    isplitl [HN]; · iexact HN
    isplitl []; · iempintro
    isplitl [HL]; · iexact HL
    iexact HO
  · iintro ⟨-, HS, HL, HO⟩
    isplitl [HS]; · iexact HS
    isplitl [HL]; · iexact HL
    iexact HO

/-- The kernel brings the result to its value. -/
theorem body_runs (c : Dev nD) (t : F .f32) (fx : Vec F S1024x32 .f32) (ff : Vec F S32x100000 .f32) (g : Vec F S1024x100000 .f32) :
    Runs c iprop(inAt c fx ∗ featAt c ff ∗ ((∃ f, bufAt c Finset.univ f) ∗ many (cellAt c) 24 0) ∗ resAt c Finset.univ g ∗ free c) (body t)
      iprop(inAt c fx ∗ featAt c ff ∗ ((∃ f, bufAt c Finset.univ f) ∗ many (cellAt c) 24 0)
        ∗ resAt c Finset.univ (GG (scaled t (inRead fx)) ff) ∗ free c) := by
  have hge : rowsGe 0 = Finset.univ := Finset.filter_true_of_mem fun i _ => Nat.zero_le _
  have hlt : rowsLt 0 = ∅ := Finset.filter_eq_empty_iff.mpr fun i _ => Nat.not_lt_zero _
  have hall : rowsLt (16 * 64) = Finset.univ := Finset.filter_true_of_mem fun i _ => (i 0).isLt
  have key (xn : FVec F S1024x32 .f32) := ((first_runs c xn ff g).frame iprop(inAt c fx ∗ resAt c (rowsLt 0) (GG xn ff) ∗ free c)).seq
    ((Runs.conseq ((middle_runs c xn ff g).frame (inAt c fx)) (P' := iprop((featAt c ff ∗ many (fly c xn ff) 6 0 ∗ resAt c (rowsGe (16 * 6)) g)
        ∗ inAt c fx ∗ resAt c (rowsLt 0) (GG xn ff) ∗ free c)) (by
        iintro ⟨⟨HF, HN, HR⟩, HX, HL, HO⟩
        isplitr [HX]
        · isplitl [HF]; · iexact HF
          isplitl [HN]; · iexact HN
          isplitl [HL]; · iexact HL
          isplitl [HR]; · iexact HR
          iexact HO
        iexact HX) .rfl).seq
      (Runs.conseq ((last_runs c xn ff).frame iprop(featAt c ff ∗ inAt c fx)) (by
        iintro ⟨⟨HF, HN, HL, HO⟩, HX⟩
        isplitl [HN HL HO]
        · isplitl [HN]; · iexact HN
          isplitl [HL]; · iexact HL
          iexact HO
        isplitl [HF]; · iexact HF
        iexact HX) .rfl))
  intro D
  unfold body
  rw [slots_eq]
  iintro ⟨HX, HF, HS, HR, HO⟩
  iapply (wp_load_rect Variants.none (c : Thread nD τ) none Set.univ (m := mX)
    (r := Rect.unit (s := S1024x32) ![0, 0] S1024x32.size Gen.inb_S1024x32_S1024x32_0_0) (f := fx) (S := Finset.univ)
    (Finset.subset_univ _)) $$ HX
  iintro HX
  iapply (Runs.conseq (key (scaled t (inRead fx))) .rfl ?_ D) $$ [HX HF HS HR HO]
  · rw [hall, slots_last]
    iintro ⟨⟨HS, HR, HO⟩, HF, HX⟩
    isplitl [HX]; · iexact HX
    isplitl [HF]; · iexact HF
    isplitl [HS]; · iexact HS
    isplitl [HR]; · iexact HR
    iexact HO
  · rw [hge, hlt, show (resAt c ∅ (GG (scaled t (inRead fx)) ff) : sProp 𝕄) = iprop(emp) from pointsTo_empty]
    isplitl [HF HS HR]
    · isplitl [HF]; · iexact HF
      isplitl [HS]; · iexact HS
      iexact HR
    isplitl [HX]; · iexact HX
    isplitl []; · iempintro
    iexact HO

end Cert.Kernel.Bands
-- ==== Proof.Launch.lean ====
/- The run of the program: the host transposes the features, the kernel stages the input and the transposed features and
   brings the result to its value, and every argument ends as it began, every counter at zero. -/
module

public import proofs.«01_k».proof.Proof.Gen.Kernel.Frame
public import proofs.«01_k».proof.Proof.Whole
public import Idealize.ShloMosaic.Lib.Pipeline.FrameValue

@[expose] public section

set_option maxRecDepth 16384

noncomputable section

namespace Cert.Kernel.Bands

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

/-! ## The kernel's own counters and buffers -/

/-- The kernel's own counters. -/
abbrev own : Fin 24 → SemLoc sig := fun k => SemLoc.dma (cell k.val k.isLt)

theorem own_facts : Pipeline.OwnSemFacts spec0 own := by decide

/-- A list of consecutive numbers is the iterated conjunction from the first of them. -/
theorem listed (f : ℕ → sProp 𝕄) : ∀ n a, bigSepL (List.range' a n) f = many f n a
  | 0, a => rfl
  | n + 1, a => by
    show bigSepL (a :: List.range' (a + 1) n) f = iprop(f a ∗ many f n (a + 1))
    rw [bigSepL_cons, listed f n (a + 1)]
    rfl

/-- A list's conjunction is its image's. -/
theorem listed_map {I J : Type} (g : I → J) (f : J → sProp 𝕄) (f' : I → sProp 𝕄) (l : List I) (h : ∀ i, f' i = f (g i)) :
    bigSepL l f' = bigSepL (l.map g) f := by
  induction l with
  | nil => rfl
  | cons i l ih => rw [List.map_cons, bigSepL_cons, bigSepL_cons, ih, h]

/-- The kernel's counters at zero, one by one. -/
theorem own_eq (c : Dev nD) :
    (Pipeline.ownSems0 (Ix := Unit) (Name := ℕ) (U := Pipeline.UD sig nD τ) (Lvl := ℕ) (Val := Elt F) (τ := τ) own c : sProp 𝕄)
      = many (cellAt c) 24 0 := by
  rw [Pipeline.ownSems0_eq_of_list c own (List.finRange 24) (by decide) (by decide), ← listed (cellAt c) 24 0]
  show bigSepL (List.finRange 24) _ = bigSepL ((List.finRange 24).map Fin.val) (cellAt c)
  exact listed_map Fin.val _ _ _ (fun k => by unfold cellAt; rw [dif_pos k.isLt])

/-- The result, which the kernel writes itself. -/
abbrev written : Finset (Ref sig .tc) := {main_v1}

variable (m : (ℓ : Loc nD τ sig) → Buf (Elt F) ℓ) (ρ : Dev nD → PrngReg)

/-! ## What the arrays hold -/

/-- What the result ends holding. -/
def result (t : F .f32) (c : Dev nD) : Vec F S1024x100000 .f32 :=
  GG (scaled t (inRead (V m c main_arg0))) (V m c main_v0)

/-- The arrays after the kernel: the result at its value, the others as the kernel found them. -/
def after (t : F .f32) (c : Dev nD) : (b : Ref sig .tc) → Buf (Elt F) ((c : Thread nD τ).loc b) :=
  Function.update (V m c) main_v1 (result m t c)

/-- A staged block is its whole array. -/
theorem blk0 (k : Fin cfg0.N) (f : Vec F S1024x32 .f32) : ((cfg0.win 0).blk k).view.read (Elt F) f = f :=
  Memref.read_access_unit_zero (Elt F) main_arg0
    (show (fun a => (win0_0.index k) a * main_arg0.ty.shape.size a) = fun _ => 0 from
      funext fun a => by fin_cases a <;> exact Nat.zero_mul _)
    (fun a => by fin_cases a <;> exact (congrArg (· + _) (Nat.zero_mul _)).trans (Nat.zero_add _) |>.le) f

theorem blk1 (k : Fin cfg0.N) (f : Vec F S32x100000 .f32) : ((cfg0.win 1).blk k).view.read (Elt F) f = f :=
  Memref.read_access_unit_zero (Elt F) main_v0
    (show (fun a => (win0_1.index k) a * main_v0.ty.shape.size a) = fun _ => 0 from
      funext fun a => by fin_cases a <;> exact Nat.zero_mul _)
    (fun a => by fin_cases a <;> exact (congrArg (· + _) (Nat.zero_mul _)).trans (Nat.zero_add _) |>.le) f

theorem iblk0_eq (c : Dev nD) (k : Fin cfg0.N) : iblk m c 0 k = V m c main_arg0 := blk0 k _
theorem iblk1_eq (c : Dev nD) (k : Fin cfg0.N) : iblk m c 1 k = V m c main_v0 := blk1 k _

/-! ## The pipeline's data -/

/-- The arrays before the kernel's only point, and after it. -/
def stage (t : F .f32) : ℕ → (c : Dev nD) → (b : Ref sig .tc) → Buf (Elt F) ((c : Thread nD τ).loc b)
  | 0 => V m
  | _ + 1 => after m t

/-- The pipeline's invariant at a point. -/
def inv (t : F .f32) (n : ℕ) (c : Dev nD) : sProp 𝕄 := Pipeline.ΦDRG own spec0 ∅ written (V m) (stage m t n) c

/-- The pipeline's data: the staged blocks stay, the result goes from what it held to its value. -/
def dats (t : F .f32) (_ : Fin 1) (c : Dev nD) : Dat τ (Elt F) Unit ℕ (Pipeline.UD sig nD τ) ℕ cfg0 c where
  A w := V m c (Pipeline.arrRef spec0 w)
  after w k := match w with
    | ⟨0, _⟩ => iblk m c 0 k
    | ⟨1, _⟩ => iblk m c 1 k
  Φ k := inv m t k.val c
  q _ := fullShare
  owed _ := 0

theorem inv_at (t : F .f32) (c : Dev nD) (n : Fin (cfg0.N + 1)) : (dats m t 0 c).Φ n = inv m t n.val c := rfl

theorem before0 (t : F .f32) (c : Dev nD) (k : Fin cfg0.N) (d) : (dats m t 0 c).before 0 k d = V m c main_arg0 :=
  ((dats m t 0 c).before_in_eq_fetched 0 rfl (fun _ => rfl) (fun _ _ _ => rfl) (fun _ => rfl) k d).trans (iblk0_eq m c k)

theorem before1 (t : F .f32) (c : Dev nD) (k : Fin cfg0.N) (d) : (dats m t 0 c).before 1 k d = V m c main_v0 :=
  ((dats m t 0 c).before_in_eq_fetched 1 rfl (fun _ => rfl) (fun _ _ _ => rfl) (fun _ => rfl) k d).trans (iblk1_eq m c k)

/-- The pipeline's invariant in the kernel's terms. -/
theorem inv_eq (c : Dev nD) (G : (c : Dev nD) → (b : Ref sig .tc) → Buf (Elt F) ((c : Thread nD τ).loc b)) :
    (Pipeline.ΦDRG own spec0 ∅ written (V m) G c : sProp 𝕄)
      = iprop((∃ f, bufAt c Finset.univ f) ∗ (∃ r, prngReg c r) ∗ many (cellAt c) 24 0 ∗ emp ∗ resAt c Finset.univ (G c main_v1)) := by
  rw [Pipeline.ΦDRG_eq, scopedRest0_eq, own_eq, Pipeline.routed_singleton, bigSep_empty]
  rfl

/-- The body runs from what the pipeline holds before the point to what it holds after. -/
theorem point_runs (t : F .f32) (c : Dev nD) (k : Fin cfg0.N) :
    Runs c iprop((dats m t 0 c).Φ k.castSucc ∗ (dats m t 0 c).owesAt () k.castSucc
        ∗ (∃ d, owns (c : Thread nD τ) (st0_0 k) fullShare ((dats m t 0 c).before 0 k d))
        ∗ (∃ d, owns (c : Thread nD τ) (st0_1 k) fullShare ((dats m t 0 c).before 1 k d)))
      (body t)
      iprop((dats m t 0 c).Φ k.succ ∗ (dats m t 0 c).owesAt () k.succ
        ∗ owns (c : Thread nD τ) (st0_0 k) fullShare ((dats m t 0 c).after 0 k)
        ∗ owns (c : Thread nD τ) (st0_1 k) fullShare ((dats m t 0 c).after 1 k)) := by
  have hk : k.val = 0 := by have := k.isLt; have h : cfg0.N = 1 := N_0; omega
  have e0 : (dats m t 0 c).Φ k.castSucc = Pipeline.ΦDRG own spec0 ∅ written (V m) (V m) c := by
    rw [inv_at, Fin.val_castSucc, hk]; rfl
  have e1 : (dats m t 0 c).Φ k.succ = Pipeline.ΦDRG own spec0 ∅ written (V m) (after m t) c := by
    rw [inv_at, Fin.val_succ]; rfl
  have a0 : (dats m t 0 c).after 0 k = V m c main_arg0 := iblk0_eq m c k
  have a1 : (dats m t 0 c).after 1 k = V m c main_v0 := iblk1_eq m c k
  have s0 : (owns (c : Thread nD τ) (st0_0 k) fullShare (V m c main_arg0) : sProp 𝕄) = inAt c (V m c main_arg0) :=
    owns_whole (c : Thread nD τ) cc0_stg0_0 fullShare (V m c main_arg0)
  have s1 : (owns (c : Thread nD τ) (st0_1 k) fullShare (V m c main_v0) : sProp 𝕄) = featAt c (V m c main_v0) :=
    owns_whole (c : Thread nD τ) cc0_stg1_0 fullShare (V m c main_v0)
  have r1 : after m t c main_v1 = GG (scaled t (inRead (V m c main_arg0))) (V m c main_v0) := by
    unfold after; rw [Function.update_self]; rfl
  simp only [before0, before1]
  rw [e0, e1, a0, a1, s0, s1, inv_eq, inv_eq, r1]
  unfold Dat.owesAt Pipeline.owesWithin
  rw [show (dats m t 0 c).owed k.castSucc = 0 from rfl, show (dats m t 0 c).owed k.succ = 0 from rfl]
  refine Runs.conseq ((body_runs c t (V m c main_arg0) (V m c main_v0) (V m c main_v1)).frame iprop(∃ r, prngReg c r)) ?_ ?_
  · iintro ⟨⟨HB, HP, HC, -, HR⟩, ⟨%W, -, HW⟩, ⟨%d0, H0⟩, ⟨%d1, H1⟩⟩
    isplitr [HP]
    · isplitl [H0]; · iexact H0
      isplitl [H1]; · iexact H1
      isplitl [HB HC]
      · isplitl [HB]; · iexact HB
        iexact HC
      isplitl [HR]; · iexact HR
      iexists W; iexact HW
    iexact HP
  · iintro ⟨⟨H0, H1, ⟨HB, HC⟩, HR, ⟨%W, HW⟩⟩, HP⟩
    isplitl [HB HP HC HR]
    · isplitl [HB]; · iexact HB
      isplitl [HP]; · iexact HP
      isplitl [HC]; · iexact HC
      isplitl []; · iempintro
      iexact HR
    isplitl [HW]
    · iexists W; isplitr; · ipureintro; exact fun _ _ => Or.inl trivial
      iexact HW
    isplitl [H0]; · iexact H0
    iexact H1

theorem obligation (t : F .f32) (c : Dev nD) :
    Pipeline.BodyObligation (dats (F := F) m t 0 c) (table t) Variants.none () Set.univ := fun k => by
  rw [bigSep_W0, bigSep_W0, table_row]
  exact triple_restated (point_runs m t c k (table t)) rfl .rfl fun _ => .rfl

/-! ## The run -/

/-- The host transposes the features before the kernel. -/
theorem host (t : F .f32) : Pipeline.HMain (Ix := Unit) (Name := ℕ) (U := Pipeline.UD sig nD τ) (Lvl := ℕ) cfgs 0 (table t)
    Variants.none m (main (F := F)) (V m) :=
  Pipeline.hmain_prefix cfgs 0 (table t) Variants.none m main hostOps0 hostOps0_sub hostOps0_fresh main_chain

set_option backward.isDefEq.respectTransparency.types false in
theorem run_post (t : F .f32) : θ_run (Pipeline.defs pcfgs (table t)) (onTc (τ := τ) (main (F := F))) (s₀ m ρ)
    (fun r => Pipeline.FramePostRG cfgs (dats m t) 0 written (V m) (after m t) r ∧ r.2.sem = fun _ => 0) :=
  Pipeline.θ_run_frame_dmaRG (Q' := _) cfgs (dats m t) (0 : Fin 1) launch0 own (table t) Variants.none own_facts ∅ written
    (Finset.empty_subset _) (by decide) m ρ main
    (hbody := fun c => (obligation m t c).loose) (hshare := fun c => (dats m t 0 c).share_full fun _ => rfl)
    (howed := fun _ _ => rfl) (V := V m) (hmain := host m t) (hA := fun _ _ => rfl) (G := after m t)
    (hin := fun _ => .rfl) (hout := fun _ => .rfl)

/-- The program runs: the result ends at its value, the arguments as they began, every counter at zero. -/
theorem run (t : F .f32) : θ_run (Pipeline.defs pcfgs (table t)) (onTc (τ := τ) (main (F := F))) ⟨m, fun _ => 0, ρ⟩
    (fun r => (∀ c : Dev nD, r.2.mem ((c.tc : Thread nD τ).loc main_v1) = result m t c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => by
    refine ⟨(h.1.written c (by decide)).trans (by unfold after; rw [Function.update_self]), ?_, ?_, ?_⟩
    · exact ((h.1.toR c).1 0).trans (((dats m t 0 c).arrAt_in 0 rfl _).trans (V_main_arg0 m c))
    · exact ((h.1.toR c).2 main_arg1 (Finset.mem_sdiff.mpr ⟨Pipeline.mem_restRefs_of main_arg1 (by decide) (by decide), by decide⟩)).trans
        (V_main_arg1 m c)
    · exact ((h.1.toR c).2 main_arg2 (Finset.mem_sdiff.mpr ⟨Pipeline.mem_restRefs_of main_arg2 (by decide) (by decide), by decide⟩)).trans
        (V_main_arg2 m c), h.2⟩) (run_post m ρ t)

end Cert.Kernel.Bands
-- ==== Proof.Product.lean ====
/- What the kernel's result holds, element by element, in real numbers: the inner product of a row of the scaled input
   with a column of the transposed features. -/
module

public import proofs.«01_k».proof.Proof.Values
public import Idealize.ShloMosaic.PureOps.Ideal
public import Idealize.ShloMosaic.Lib.Pointwise

@[expose] public section

set_option maxRecDepth 16384

noncomputable section

namespace Cert.Kernel.Bands

open Cert.Kernel
open Idealize.ShloMosaic Idealize.ShloMosaic.TcCoe
open Idealize.SL Idealize.SL.Sem

/-- A chunk of features at a feature and a column of the chunk. -/
theorem feat_apply {F : FTy → Type} [FloatOps F] (ff : Vec F S32x100000 .f32) (o n : ℕ) (ho : o + n ≤ 100000) (k : Fin 32) (l : Fin n) :
    feat ff o n ho (ix2 k l) = ff (ix2 k ⟨o + l.val, by have := l.isLt; omega⟩) := by
  refine congrArg ff (Shape.idx_ext₂ ?_ ?_)
  · exact (Nat.zero_add _).trans (Nat.one_mul _)
  · exact congrArg (o + ·) (Nat.one_mul _)

/-- A chunk of a band at a row and a column: the inner product over the features. -/
theorem chunkAt_apply (xn : FVec Ideal S1024x32 .f32) (ff : Vec Ideal S32x100000 .f32) (b : ℕ) (hb : b < 64) (o n : ℕ)
    (ho : o + n ≤ 100000) (i : Fin 16) (l : Fin n) :
    chunkAt xn ff b hb o n ho i l
      = ∑ k : Fin 32, xn (ix2 ⟨16 * b + i.val, by have := i.isLt; omega⟩ k) * ff (ix2 k ⟨o + l.val, by have := l.isLt; omega⟩) := by
  unfold chunkAt
  pointwise [prod, dot]
  refine Finset.sum_congr rfl fun k _ => congrArg (xn _ * ·) ?_
  refine (congrArg (feat ff o n ho) (Shape.idx_ext₂ (y := ix2 k l) ?_ ?_)).trans (feat_apply ff o n ho k l)
  · rfl
  · rfl

/-- A band at a row and a column: the inner product over the features. -/
theorem bandAt_apply (xn : FVec Ideal S1024x32 .f32) (ff : Vec Ideal S32x100000 .f32) (b : ℕ) (hb : b < 64) (i : Fin 16)
    (j : Fin 100000) :
    bandAt xn ff b hb i j = ∑ k : Fin 32, xn (ix2 ⟨16 * b + i.val, by have := i.isLt; omega⟩ k) * ff (ix2 k j) := by
  have part : ∀ (o n : ℕ) (ho : o + n ≤ 100000), IsChunk o n ho → o ≤ j.val → j.val < o + n →
      bandAt xn ff b hb i j = ∑ k : Fin 32, xn (ix2 ⟨16 * b + i.val, by have := i.isLt; omega⟩ k) * ff (ix2 k j) := by
    intro o n ho hc h₁ h₂
    rw [hc xn ff b hb i ⟨j.val - o, by omega⟩ j (by dsimp only; omega), chunkAt_apply]
    refine Finset.sum_congr rfl fun k _ => congrArg (fun y => _ * ff (ix2 k y)) (Fin.ext ?_)
    dsimp only; omega
  have := j.isLt
  by_cases h₁ : j.val < 25088
  · exact part _ _ _ isChunk0 (by omega) (by omega)
  by_cases h₂ : j.val < 50176
  · exact part _ _ _ isChunk1 (by omega) (by omega)
  by_cases h₃ : j.val < 75264
  · exact part _ _ _ isChunk2 (by omega) (by omega)
  · exact part _ _ _ isChunk3 (by omega) (by omega)

/-- The result at a row and a column: the inner product over the features. -/
theorem GG_apply (xn : FVec Ideal S1024x32 .f32) (ff : Vec Ideal S32x100000 .f32) (i : Fin 1024) (j : Fin 100000) :
    GG xn ff (ix2 i j) = ∑ k : Fin 32, xn (ix2 i k) * ff (ix2 k j) := by
  refine (bandAt_apply xn ff _ _ _ _).trans (Finset.sum_congr rfl fun k _ => congrArg (fun y => xn (ix2 y k) * _) (Fin.ext ?_))
  change 16 * (i.val / 16) + i.val % 16 = i.val
  omega

end Cert.Kernel.Bands
-- ==== Proof.Scaling.lean ====
/- The algebra of the equation: a positive finite factor common to the terms of a sum of extended reals is a factor of the sum,
   whatever the terms. -/
module

public import Idealize.ShloMosaic.PureOps.Ideal
public import Idealize.ShloMosaic.Lib.IdealHost

@[expose] public section

noncomputable section

namespace Cert.Scaling

open Idealize.ShloMosaic
open scoped BigOperators

/-- The temperature's reciprocal. -/
abbrev T : ℝ := 268435456 / 13421773

/-- A nonnegative finite factor common to the terms is the sum's. -/
theorem sum_mul_factor {ι : Type} (s : Finset ι) (a : ι → EReal) (r : ℝ) (hr : 0 ≤ r) :
    ∑ k ∈ s, a k * (r : EReal) = (∑ k ∈ s, a k) * (r : EReal) := by
  classical
  induction s using Finset.induction_on with
  | empty => simp
  | insert i s hi ih =>
    rw [Finset.sum_insert hi, Finset.sum_insert hi, ih]
    exact (EReal.right_distrib_of_nonneg_of_ne_top (EReal.coe_nonneg.mpr hr) (EReal.coe_ne_top r) _ _).symm

/-- The temperature: the single-precision number nearest a twentieth. -/
theorem temp_eq : Ideal.ofBits .f32 0x3D4CCCCD#32 = (((T⁻¹ : ℝ)) : EReal) := by
  simp [Ideal.ofBits, Ideal.ieee, -EReal.coe_mul]; norm_num

/-- The clip's lower bound is positive. -/
theorem eps_pos : 0 < Ideal.ofBits .f32 0x2B8CBCCC#32 := by
  simp [Ideal.ofBits, Ideal.ieee, -EReal.coe_mul]

/-- Scaling each input by the temperature's reciprocal over the norm, then summing products, is dividing each input by the
    norm, summing products, then dividing by the temperature. -/
theorem equation {ι : Type} [Fintype ι] (x f : ι → EReal) (d : EReal) (hd : 0 < d) :
    ∑ k, x k * Ideal.div (T : EReal) d * f k
      = Ideal.div (∑ k, Ideal.div (x k) d * f k) (Ideal.ofBits .f32 0x3D4CCCCD#32) := by
  have ht : (((T⁻¹ : ℝ)) : EReal) ≠ 0 := by
    rw [Ne, EReal.coe_eq_zero]; norm_num
  rw [temp_eq]
  unfold Ideal.div
  simp only [if_neg hd.ne', if_neg ht]
  rw [← EReal.coe_inv, inv_inv, ← sum_mul_factor _ _ T (by norm_num)]
  refine Finset.sum_congr rfl fun k _ => ?_
  rw [mul_comm (T : EReal), ← mul_assoc, mul_right_comm]

end Cert.Scaling
-- ==== Proof.Reference.lean ====
/- What the reference computes, in real numbers. -/
module

public import proofs.«01_k».proof.Proof.Gen.ReferenceIdeal
public import proofs.«01_k».proof.Proof.Scaling
public import Idealize.ShloMosaic.Lib.Pointwise
public import Idealize.ShloMosaic.Lib.IdealHost

@[expose] public section

set_option maxRecDepth 16384

noncomputable section

namespace Cert.ReferenceIdeal.Plain

open Cert.ReferenceIdeal
open Idealize.ShloMosaic Idealize.ShloMosaic.TcCoe
open Idealize.SL Idealize.SL.Sem

/-- The clipped norm of a row of an input. -/
def norm (x : S1024x32.Idx → EReal) (i : Fin 1024) : EReal :=
  max (Ideal.ofBits .f32 0x2B8CBCCC#32) (Ideal.sqrt (∑ k : Fin 32, x (ix2 i k) * x (ix2 i k)))

theorem norm_pos (x : S1024x32.Idx → EReal) (i : Fin 1024) : 0 < norm x i := lt_max_of_lt_left Scaling.eps_pos

/-- The reference's result, of its two arguments that count. -/
def outcome (x : FVec Ideal S1024x32 .f32) (f : FVec Ideal S100000x32 .f32) : FVec Ideal S1024x100000 .f32 :=
  Host.divf
    (Host.dotGeneral dot_S1024x32_S32x100000_S1024x100000_1_0_0_1_n_n none
      (Host.divf x (broadcastInDim S1024x32 ![0, 1] Gen.bcast_S1024x1_S1024x32_0_1
        (maximumf (broadcastInDim S1024x1 ![] Gen.bcast_S_S1024x1 (constant S_ .f32 0x2B8CBCCC#32))
          (Host.sqrt (broadcastInDim S1024x1 ![0] Gen.bcast_S1024_S1024x1_0
            (Host.reduceAdd (mulf x x) (constant S_ .f32 0x00000000#32) Gen.reducesTo_S1024x32_S1024_d1 Gen.h_S_))))))
      (transpose S32x100000 [1, 0] f Gen.transposes_S100000x32_S32x100000_1_0))
    (broadcastInDim S1024x100000 ![] Gen.bcast_S_S1024x100000 (constant S_ .f32 0x3D4CCCCD#32))

/-- The reference at a row and a column: the inner product of the row, each input over the row's clipped norm, with the
    column's features, over the temperature. -/
theorem outcome_apply (x : FVec Ideal S1024x32 .f32) (f : FVec Ideal S100000x32 .f32) (i : Fin 1024) (j : Fin 100000) :
    outcome x f (ix2 i j)
      = Ideal.div (∑ k : Fin 32, Ideal.div (x (ix2 i k)) (norm x i) * f (ix2 j k)) (Ideal.ofBits .f32 0x3D4CCCCD#32) := by
  pointwise [outcome, norm]

end Cert.ReferenceIdeal.Plain
-- ==== Proof.Same.lean ====
/- The kernel as taken, and its reading in real numbers, are each the program by bands: the first scaling by the constant
   twenty, the second by the number named for it. -/
module

public import proofs.«01_k».proof.Proof.Gen.KernelIdeal
public import proofs.«01_k».proof.Proof.Gen.Kernel
public import proofs.«01_k».proof.Proof.Program
public import Idealize.ShloMosaic.PureOps.Ideal

@[expose] public section

set_option maxRecDepth 16384

noncomputable section

namespace Cert.Kernel.Bands

open Idealize.ShloMosaic Idealize.ShloMosaic.TcCoe
open Idealize.SL Idealize.SL.Sem

/-- The types of a whole program and of its table. -/
abbrev Whole (F : FTy → Type) [FloatOps F] :=
  Dev nD → Prog (TpuEff nD τ sig (Elt F) (Pipeline.Sig Λ₀ (Fin 1) fun p => (pcfgs (F := F) p).Adm) .tc) PUnit

abbrev Table (F : FTy → Type) [FloatOps F] :=
  Defs nD τ sig (Elt F) (Pipeline.Sig Λ₀ (Fin 1) fun p => (pcfgs (F := F) p).Adm)

/-- The kernel's scalar as taken: twenty. -/
def twenty {F : FTy → Type} [FloatOps F] : F .f32 := Scalar.ofBits .f32 0x41A00000#32

/-- The kernel's scalar in real numbers: the number named for it. -/
def invTemp : Ideal .f32 := Named.named Cert.KernelIdeal.κ "inv_temp" 0x41A00000#32

/-- The kernel's table as taken is the program by bands at twenty. -/
theorem defs₀_eq {F : FTy → Type} [FloatOps F] : (defs₀ : Defs nD τ sig (Elt F) Λ₀) = table twenty := by
  chain_rfl

/-- The kernel's table read in real numbers is the program by bands at the named number. -/
theorem defs₀_ideal_eq : (Cert.KernelIdeal.defs₀ (F := Ideal) : Defs nD τ sig (Elt Ideal) Λ₀) = table invTemp := by
  chain_rfl

/-- The two host programs are one. -/
theorem main_ideal_eq : (Cert.KernelIdeal.main (F := Ideal) : Whole Ideal) = main := by
  chain_rfl

/-- The whole table as taken. -/
theorem defs_eq {F : FTy → Type} [FloatOps F] : (defs (F := F) : Table F) = Pipeline.defs pcfgs (table twenty) := by
  unfold defs; rw [defs₀_eq]

/-- The whole table read in real numbers. -/
theorem defs_ideal_eq : (Cert.KernelIdeal.defs (F := Ideal) : Table Ideal) = Pipeline.defs pcfgs (table invTemp) :=
  (show (Cert.KernelIdeal.defs (F := Ideal) : Table Ideal) = Pipeline.defs pcfgs (Cert.KernelIdeal.defs₀ (F := Ideal)) by chain_rfl).trans
    (congrArg (Pipeline.defs pcfgs) defs₀_ideal_eq)

end Cert.Kernel.Bands
-- ==== Proof.Equation.lean ====
/- The equation: what the kernel's result holds, in real numbers, is what the reference computes. -/
module

public import proofs.«01_k».proof.Proof.Product
public import proofs.«01_k».proof.Proof.Reference
public import proofs.«01_k».proof.Proof.Launch
public import proofs.«01_k».proof.Proof.Same
public import Idealize.ShloMosaic.Lib.Claim

@[expose] public section

set_option maxRecDepth 16384

noncomputable section

namespace Cert.Kernel.Bands

open Cert.Kernel Cert.Kernel.Gen
open Idealize.ShloMosaic Idealize.ShloMosaic.TcCoe
open Idealize.SL Idealize.SL.Sem
open Cert.ReferenceIdeal.Plain (norm norm_pos outcome outcome_apply)

/-- The number named in the kernel is the temperature's reciprocal. -/
theorem invTemp_eq : invTemp = ((Scaling.T : ℝ) : EReal) := rfl

/-- The staged input as read is the input. -/
theorem inRead_eq {F : FTy → Type} [FloatOps F] (x : Vec F S1024x32 .f32) : inRead x = x := by
  unfold inRead
  refine funext fun i => congrArg x (Shape.idx_ext₂ ?_ ?_)
  · exact (Nat.zero_add _).trans (Nat.one_mul _)
  · exact (Nat.zero_add _).trans (Nat.one_mul _)

/-- The scaled input at a row and a feature: the input times the scalar over the row's clipped norm. -/
theorem scaled_apply (t : Ideal .f32) (x : FVec Ideal S1024x32 .f32) (i : Fin 1024) (k : Fin 32) :
    scaled t x (ix2 i k) = x (ix2 i k) * Ideal.div t (norm x i) := by
  pointwise [scaled, Cert.ReferenceIdeal.Plain.norm]

/-- The transposed features as the kernel finds them. -/
theorem feats_eq (m : (ℓ : Loc nD τ sig) → Buf (Elt Ideal) ℓ) (c : Dev nD) (k : Fin 32) (j : Fin 100000) :
    V m c main_v0 (ix2 k j) = m ((c.tc : Thread nD τ).loc main_arg2) (ix2 j k) := by
  rw [show V m c main_v0 = transpose S32x100000 [1, 0] (m ((c.tc : Thread nD τ).loc main_arg2)) transposes_S100000x32_S32x100000_1_0
    by entry_read; rfl]
  pointwise []

/-- The kernel's result is the reference's. -/
theorem result_eq (m : (ℓ : Loc nD τ sig) → Buf (Elt Ideal) ℓ) (c : Dev nD) :
    result m invTemp c
      = outcome (m ((c.tc : Thread nD τ).loc main_arg0)) (m ((c.tc : Thread nD τ).loc main_arg2)) := by
  suffices h : ∀ (i : Fin 1024) (j : Fin 100000), result m invTemp c (ix2 i j)
      = outcome (m ((c.tc : Thread nD τ).loc main_arg0)) (m ((c.tc : Thread nD τ).loc main_arg2)) (ix2 i j) from
    funext fun y => by rw [eq_ix2 y]; exact h _ _
  intro i j
  unfold result
  rw [GG_apply, inRead_eq, V_main_arg0]
  refine Eq.trans ?_ (outcome_apply _ _ i j).symm
  refine Eq.trans ?_ (Scaling.equation (fun k => m ((c.tc : Thread nD τ).loc main_arg0) (ix2 i k))
    (fun k => m ((c.tc : Thread nD τ).loc main_arg2) (ix2 j k)) (norm (m ((c.tc : Thread nD τ).loc main_arg0)) i) (norm_pos _ _))
  refine Finset.sum_congr rfl fun k _ => ?_
  rw [scaled_apply, feats_eq, invTemp_eq]

end Cert.Kernel.Bands
-- ==== Proof.lean ====
/- The claims proved: the kernel as taken, its reading in real numbers and the reference each run and leave their arguments and
   counters as they were; the one named constant is what it stands for; and the kernel's result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Equation
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL Idealize.SL.Sem Cert.Kernel

/-- The kernel as taken runs, leaving its arguments and its counters as they were. -/
theorem frame_kernel : quiescent_Kernel (hKernel := Cert.Kernel.Gen.facts) := fun m g _ => by
  rw [show (defs (F := Bits) : Bands.Table Bits) = _ from Bands.defs_eq]
  exact (θ_run _ _ _).mono (fun _ h => ⟨fun c => (h.1 c).2, h.2⟩) (Bands.run m g Bands.twenty)

/-- The kernel read in real numbers runs: its result at its value, its arguments and its counters as they were. -/
theorem run_ideal (m : (ℓ : Loc nD τ sig) → Buf (Elt Ideal) ℓ) (g : Dev nD → PrngReg) :
    θ_run (Cert.KernelIdeal.defs (F := Ideal)) (onTc (τ := Cert.KernelIdeal.τ) (Cert.KernelIdeal.main (F := Ideal)))
      ⟨m, fun _ => 0, g⟩ (fun r => (∀ c : Dev nD, r.2.mem ((c.tc : Thread nD τ).loc main_v1) = Bands.result m Bands.invTemp c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have h := Bands.run m g Bands.invTemp
  rw [← Bands.defs_ideal_eq, ← Bands.main_ideal_eq] at h
  exact h

/-- The kernel read in real numbers leaves its arguments and its counters as they were. -/
theorem frame_ideal : quiescent_KernelIdeal (hKernelIdeal := Cert.KernelIdeal.Gen.facts) := fun m g _ =>
  (θ_run _ _ _).mono (fun _ h => ⟨fun c => (h.1 c).2, h.2⟩) (run_ideal m g)

/-- The reference runs, leaving its arguments and its counters as they were. -/
theorem frame_reference : quiescent_ReferenceIdeal (hReferenceIdeal := Cert.ReferenceIdeal.Gen.facts) := fun m g _ => by
  hlo_run
  · exact fun _ => ⟨trivial, trivial, trivial⟩
  · exact sem_eq_zero_of_no_sems (sig := Cert.ReferenceIdeal.sig) (by decide) _

/-- The number named in the kernel is the constant it stands for. -/
theorem preserved : preserves_Kernel_KernelIdeal :=
  IdealRules.named_const.statement Cert.KernelIdeal.κ "inv_temp" .f32 0x41A00000#32 ((268435456 / 13421773 : ℝ) : EReal) rfl

/-- The kernel's result is the reference's. -/
theorem equal : algebraic_KernelIdeal_ReferenceIdeal (hKernelIdeal := Cert.KernelIdeal.Gen.facts)
    (hReferenceIdeal := Cert.ReferenceIdeal.Gen.facts) := by
  intro m g m' g' _ hagree
  refine ⟨fun c => Bands.result m Bands.invTemp c, (θ_run _ _ _).mono (fun _ h => h.1) (run_ideal m g), ?_⟩
  hlo_run
  exact (Bands.result_eq m c).symm

/-- Every claim. -/
theorem claim : Cert.Claim := ⟨Cert.Kernel.Gen.facts, Cert.KernelIdeal.Gen.facts, Cert.ReferenceIdeal.Gen.facts,
  frame_kernel, frame_ideal, frame_reference, preserved, equal⟩

end Cert.Proof

end
